-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Gptq (m : (ℓ : Loc Cert.Gptq.nD Cert.Gptq.τ Cert.Gptq.sig) → Buf (Elt Bits) ℓ) : Prop :=
  True

def Pre_GptqIdeal (m : (ℓ : Loc Cert.GptqIdeal.nD Cert.GptqIdeal.τ Cert.GptqIdeal.sig) → Buf (Elt Ideal) ℓ) : Prop :=
  True

def Pre_GptqRefIdeal (m : (ℓ : Loc Cert.GptqRefIdeal.nD Cert.GptqRefIdeal.τ Cert.GptqRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Gptq [hGptq : Cert.Gptq.Facts] : Prop :=
  ∀ (m : (ℓ : Loc Cert.Gptq.nD Cert.Gptq.τ Cert.Gptq.sig) → Buf (Elt Bits) ℓ) (g : Dev Cert.Gptq.nD → PrngReg), Pre_Gptq m →
    θ_run (Cert.Gptq.defs (F := Bits)) (onTc (τ := Cert.Gptq.τ) (Cert.Gptq.main (F := Bits))) ⟨m, fun _ => 0, g⟩ (fun r => (∀ c : Dev Cert.Gptq.nD,
      r.2.mem ((c.tc : Thread Cert.Gptq.nD Cert.Gptq.τ).loc Cert.Gptq.main_arg0) = m ((c.tc : Thread Cert.Gptq.nD Cert.Gptq.τ).loc Cert.Gptq.main_arg0)
      ∧ r.2.mem ((c.tc : Thread Cert.Gptq.nD Cert.Gptq.τ).loc Cert.Gptq.main_arg1) = m ((c.tc : Thread Cert.Gptq.nD Cert.Gptq.τ).loc Cert.Gptq.main_arg1))
      ∧ r.2.sem = fun _ => 0)

def quiescent_GptqIdeal [hGptqIdeal : Cert.GptqIdeal.Facts] : Prop :=
  ∀ (m : (ℓ : Loc Cert.GptqIdeal.nD Cert.GptqIdeal.τ Cert.GptqIdeal.sig) → Buf (Elt Ideal) ℓ) (g : Dev Cert.GptqIdeal.nD → PrngReg), Pre_GptqIdeal m →
    θ_run (Cert.GptqIdeal.defs (F := Ideal)) (onTc (τ := Cert.GptqIdeal.τ) (Cert.GptqIdeal.main (F := Ideal))) ⟨m, fun _ => 0, g⟩ (fun r => (∀ c : Dev Cert.GptqIdeal.nD,
      r.2.mem ((c.tc : Thread Cert.GptqIdeal.nD Cert.GptqIdeal.τ).loc Cert.GptqIdeal.main_arg0) = m ((c.tc : Thread Cert.GptqIdeal.nD Cert.GptqIdeal.τ).loc Cert.GptqIdeal.main_arg0)
      ∧ r.2.mem ((c.tc : Thread Cert.GptqIdeal.nD Cert.GptqIdeal.τ).loc Cert.GptqIdeal.main_arg1) = m ((c.tc : Thread Cert.GptqIdeal.nD Cert.GptqIdeal.τ).loc Cert.GptqIdeal.main_arg1))
      ∧ r.2.sem = fun _ => 0)

def quiescent_GptqRefIdeal [hGptqRefIdeal : Cert.GptqRefIdeal.Facts] : Prop :=
  ∀ (m : (ℓ : Loc Cert.GptqRefIdeal.nD Cert.GptqRefIdeal.τ Cert.GptqRefIdeal.sig) → Buf (Elt Ideal) ℓ) (g : Dev Cert.GptqRefIdeal.nD → PrngReg), Pre_GptqRefIdeal m →
    θ_run (Cert.GptqRefIdeal.defs (F := Ideal)) (onTc (τ := Cert.GptqRefIdeal.τ) (Cert.GptqRefIdeal.main (F := Ideal))) ⟨m, fun _ => 0, g⟩ (fun r => (∀ c : Dev Cert.GptqRefIdeal.nD,
      r.2.mem ((c.tc : Thread Cert.GptqRefIdeal.nD Cert.GptqRefIdeal.τ).loc Cert.GptqRefIdeal.main_arg0) = m ((c.tc : Thread Cert.GptqRefIdeal.nD Cert.GptqRefIdeal.τ).loc Cert.GptqRefIdeal.main_arg0)
      ∧ r.2.mem ((c.tc : Thread Cert.GptqRefIdeal.nD Cert.GptqRefIdeal.τ).loc Cert.GptqRefIdeal.main_arg1) = m ((c.tc : Thread Cert.GptqRefIdeal.nD Cert.GptqRefIdeal.τ).loc Cert.GptqRefIdeal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Gptq_GptqIdeal : Prop :=
  True

def algebraic_GptqIdeal_GptqRefIdeal [hGptqIdeal : Cert.GptqIdeal.Facts] [hGptqRefIdeal : Cert.GptqRefIdeal.Facts] : Prop :=
  ∀ (m : (ℓ : Loc Cert.GptqIdeal.nD Cert.GptqIdeal.τ Cert.GptqIdeal.sig) → Buf (Elt Ideal) ℓ) (g : Dev Cert.GptqIdeal.nD → PrngReg)
    (m' : (ℓ : Loc Cert.GptqRefIdeal.nD Cert.GptqRefIdeal.τ Cert.GptqRefIdeal.sig) → Buf (Elt Ideal) ℓ) (g' : Dev Cert.GptqRefIdeal.nD → PrngReg), Pre_GptqIdeal m →
    (∀ c : Dev Cert.GptqIdeal.nD,
      m' ((c.tc : Thread Cert.GptqRefIdeal.nD Cert.GptqRefIdeal.τ).loc Cert.GptqRefIdeal.main_arg0) = m ((c.tc : Thread Cert.GptqIdeal.nD Cert.GptqIdeal.τ).loc Cert.GptqIdeal.main_arg0)
      ∧ m' ((c.tc : Thread Cert.GptqRefIdeal.nD Cert.GptqRefIdeal.τ).loc Cert.GptqRefIdeal.main_arg1) = m ((c.tc : Thread Cert.GptqIdeal.nD Cert.GptqIdeal.τ).loc Cert.GptqIdeal.main_arg1)) →
    ∃ (v0 : (c : Dev Cert.GptqIdeal.nD) → Buf (Elt Ideal) ((c.tc : Thread Cert.GptqIdeal.nD Cert.GptqIdeal.τ).loc Cert.GptqIdeal.main_v3)) (v1 : (c : Dev Cert.GptqIdeal.nD) → Buf (Elt Ideal) ((c.tc : Thread Cert.GptqIdeal.nD Cert.GptqIdeal.τ).loc Cert.GptqIdeal.main_v4)) (v2 : (c : Dev Cert.GptqIdeal.nD) → Buf (Elt Ideal) ((c.tc : Thread Cert.GptqIdeal.nD Cert.GptqIdeal.τ).loc Cert.GptqIdeal.main_v5)) (v3 : (c : Dev Cert.GptqIdeal.nD) → Buf (Elt Ideal) ((c.tc : Thread Cert.GptqIdeal.nD Cert.GptqIdeal.τ).loc Cert.GptqIdeal.main_v8)),
      θ_run (Cert.GptqIdeal.defs (F := Ideal)) (onTc (τ := Cert.GptqIdeal.τ) (Cert.GptqIdeal.main (F := Ideal))) ⟨m, fun _ => 0, g⟩ (fun r => ∀ c : Dev Cert.GptqIdeal.nD,
          r.2.mem ((c.tc : Thread Cert.GptqIdeal.nD Cert.GptqIdeal.τ).loc Cert.GptqIdeal.main_v3) = v0 c
          ∧ r.2.mem ((c.tc : Thread Cert.GptqIdeal.nD Cert.GptqIdeal.τ).loc Cert.GptqIdeal.main_v4) = v1 c
          ∧ r.2.mem ((c.tc : Thread Cert.GptqIdeal.nD Cert.GptqIdeal.τ).loc Cert.GptqIdeal.main_v5) = v2 c
          ∧ r.2.mem ((c.tc : Thread Cert.GptqIdeal.nD Cert.GptqIdeal.τ).loc Cert.GptqIdeal.main_v8) = v3 c
          ∧ r.2.mem ((c.tc : Thread Cert.GptqIdeal.nD Cert.GptqIdeal.τ).loc Cert.GptqIdeal.main_arg0) = m ((c.tc : Thread Cert.GptqIdeal.nD Cert.GptqIdeal.τ).loc Cert.GptqIdeal.main_arg0)
          ∧ r.2.mem ((c.tc : Thread Cert.GptqIdeal.nD Cert.GptqIdeal.τ).loc Cert.GptqIdeal.main_arg1) = m ((c.tc : Thread Cert.GptqIdeal.nD Cert.GptqIdeal.τ).loc Cert.GptqIdeal.main_arg1))
      ∧ θ_run (Cert.GptqRefIdeal.defs (F := Ideal)) (onTc (τ := Cert.GptqRefIdeal.τ) (Cert.GptqRefIdeal.main (F := Ideal))) ⟨m', fun _ => 0, g'⟩ (fun r => ∀ c : Dev Cert.GptqRefIdeal.nD,
          r.2.mem ((c.tc : Thread Cert.GptqRefIdeal.nD Cert.GptqRefIdeal.τ).loc Cert.GptqRefIdeal.main_v21_7) = v0 c
          ∧ r.2.mem ((c.tc : Thread Cert.GptqRefIdeal.nD Cert.GptqRefIdeal.τ).loc Cert.GptqRefIdeal.main_v27) = v1 c
          ∧ r.2.mem ((c.tc : Thread Cert.GptqRefIdeal.nD Cert.GptqRefIdeal.τ).loc Cert.GptqRefIdeal.main_v12) = v2 c
          ∧ r.2.mem ((c.tc : Thread Cert.GptqRefIdeal.nD Cert.GptqRefIdeal.τ).loc Cert.GptqRefIdeal.main_v29) = v3 c
          ∧ r.2.mem ((c.tc : Thread Cert.GptqRefIdeal.nD Cert.GptqRefIdeal.τ).loc Cert.GptqRefIdeal.main_arg0) = m' ((c.tc : Thread Cert.GptqRefIdeal.nD Cert.GptqRefIdeal.τ).loc Cert.GptqRefIdeal.main_arg0)
          ∧ r.2.mem ((c.tc : Thread Cert.GptqRefIdeal.nD Cert.GptqRefIdeal.τ).loc Cert.GptqRefIdeal.main_arg1) = m' ((c.tc : Thread Cert.GptqRefIdeal.nD Cert.GptqRefIdeal.τ).loc Cert.GptqRefIdeal.main_arg1))

def Claim : Prop :=
  ∃ (hKernel : Cert.Kernel.Facts) (hKernelIdeal : Cert.KernelIdeal.Facts) (hReferenceIdeal : Cert.ReferenceIdeal.Facts) (hGptq : Cert.Gptq.Facts) (hGptqIdeal : Cert.GptqIdeal.Facts) (hGptqRefIdeal : Cert.GptqRefIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Gptq (hGptq := hGptq)
    ∧ quiescent_GptqIdeal (hGptqIdeal := hGptqIdeal)
    ∧ quiescent_GptqRefIdeal (hGptqRefIdeal := hGptqRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Gptq_GptqIdeal
    ∧ algebraic_GptqIdeal_GptqRefIdeal (hGptqIdeal := hGptqIdeal) (hGptqRefIdeal := hGptqRefIdeal)
-- ==== Pre_finite.lean ====
abbrev S12288x128 : Shape := ⟨2, ![12288, 128]⟩
abbrev S128x3584 : Shape := ⟨2, ![128, 3584]⟩
abbrev S_ : Shape := ⟨0, ![]⟩

class Facts : Prop where
  bcast_S_S12288x128 : S_.BroadcastsInDim S12288x128 (![] : Fin 0 → Fin S12288x128.rank)
  reducesTo_S12288x128_S_d0_1 : S12288x128.ReducesTo [0, 1] S_
  h_S_ : 0 < S_.numel
  bcast_S_S128x3584 : S_.BroadcastsInDim S128x3584 (![] : Fin 0 → Fin S128x3584.rank)
  reducesTo_S128x3584_S_d0_1 : S128x3584.ReducesTo [0, 1] S_

variable [Facts]

def fn {F : FTy → Type} [FloatOps F] (main_arg0 : FVec F S12288x128 .f32) (main_arg1 : FVec F S128x3584 .f32) : IVec S_ 1 :=
  let main_v0 : FVec F S12288x128 .f32 := Host.absf main_arg0
  let main_cst : FVec F S_ .f32 := constant S_ .f32 0x7F800000#32
  let main_v1 : FVec F S12288x128 .f32 := broadcastInDim S12288x128 ![] bcast_S_S12288x128 main_cst
  let main_v2 : IVec S12288x128 1 := cmpf .olt main_v0 main_v1
  let main_c : IVec S_ 1 := constantI S_ 1 1#1
  let main_v3 : IVec S_ 1 := (fun x v => Host.reduce IntOp.andi x v reducesTo_S12288x128_S_d0_1 h_S_) main_v2 main_c
  let main_v4 : FVec F S128x3584 .f32 := Host.absf main_arg1
  let main_cst_0 : FVec F S_ .f32 := constant S_ .f32 0x7F800000#32
  let main_v5 : FVec F S128x3584 .f32 := broadcastInDim S128x3584 ![] bcast_S_S128x3584 main_cst_0
  let main_v6 : IVec S128x3584 1 := cmpf .olt main_v4 main_v5
  let main_c_1 : IVec S_ 1 := constantI S_ 1 1#1
  let main_v7 : IVec S_ 1 := (fun x v => Host.reduce IntOp.andi x v reducesTo_S128x3584_S_d0_1 h_S_) main_v6 main_c_1
  let main_v8 : IVec S_ 1 := andi main_v3 main_v7
  main_v8
-- ==== Kernel.lean ====
abbrev S12288x128 : Shape := ⟨2, ![12288, 128]⟩
abbrev S128x3584 : Shape := ⟨2, ![128, 3584]⟩
abbrev S128x3456 : Shape := ⟨2, ![128, 3456]⟩
abbrev S12288x3456 : Shape := ⟨2, ![12288, 3456]⟩
abbrev S1024x128 : Shape := ⟨2, ![1024, 128]⟩
abbrev S128x1152 : Shape := ⟨2, ![128, 1152]⟩
abbrev S1024x1152 : Shape := ⟨2, ![1024, 1152]⟩
abbrev S1024x768 : Shape := ⟨2, ![1024, 768]⟩
abbrev S768x1152 : Shape := ⟨2, ![768, 1152]⟩

abbrev nBuf : Space → Nat
  | .hbm => 4
  | .vmem => 6
  | .smem => 0
  | _ => 0

abbrev bufTy : (tb : Table) → Fin (tcTables nBuf tb) → BufTy
  | .hbm, ⟨0, _⟩ => ⟨S12288x128, .f32⟩
  | .hbm, ⟨1, _⟩ => ⟨S128x3584, .f32⟩
  | .hbm, ⟨2, _⟩ => ⟨S128x3456, .f32⟩
  | .hbm, ⟨3, _⟩ => ⟨S12288x3456, .f32⟩
  | .local _ .vmem, ⟨0, _⟩ => ⟨S1024x128, .f32⟩
  | .local _ .vmem, ⟨1, _⟩ => ⟨S1024x128, .f32⟩
  | .local _ .vmem, ⟨2, _⟩ => ⟨S128x1152, .f32⟩
  | .local _ .vmem, ⟨3, _⟩ => ⟨S128x1152, .f32⟩
  | .local _ .vmem, ⟨4, _⟩ => ⟨S1024x1152, .f32⟩
  | .local _ .vmem, ⟨5, _⟩ => ⟨S1024x1152, .f32⟩
  | _, _ => ⟨S12288x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![3, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S128x1152 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceIdeal.lean ====
abbrev S12288x128 : Shape := ⟨2, ![12288, 128]⟩
abbrev S128x3584 : Shape := ⟨2, ![128, 3584]⟩
abbrev S128x3456 : Shape := ⟨2, ![128, 3456]⟩
abbrev S12288x3456 : Shape := ⟨2, ![12288, 3456]⟩

abbrev nBuf : Space → Nat
  | .hbm => 4
  | .vmem => 0
  | .smem => 0
  | _ => 0

abbrev bufTy : (tb : Table) → Fin (tcTables nBuf tb) → BufTy
  | .hbm, ⟨0, _⟩ => ⟨S12288x128, .f32⟩
  | .hbm, ⟨1, _⟩ => ⟨S128x3584, .f32⟩
  | .hbm, ⟨2, _⟩ => ⟨S128x3456, .f32⟩
  | .hbm, ⟨3, _⟩ => ⟨S12288x3456, .f32⟩
  | _, _ => ⟨S12288x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Gptq.lean ====
abbrev S3x4096x128 : Shape := ⟨3, ![3, 4096, 128]⟩
abbrev S128x3584 : Shape := ⟨2, ![128, 3584]⟩
abbrev S12288x128 : Shape := ⟨2, ![12288, 128]⟩
abbrev S128x128 : Shape := ⟨2, ![128, 128]⟩
abbrev S3x64x4096 : Shape := ⟨3, ![3, 64, 4096]⟩
abbrev S96x128 : Shape := ⟨2, ![96, 128]⟩
abbrev S1024x128 : Shape := ⟨2, ![1024, 128]⟩
abbrev S1x64x1024 : Shape := ⟨3, ![1, 64, 1024]⟩
abbrev S8x128 : Shape := ⟨2, ![8, 128]⟩
abbrev S128x8x128 : Shape := ⟨3, ![128, 8, 128]⟩
abbrev S64x8x128 : Shape := ⟨3, ![64, 8, 128]⟩
abbrev S128x1x128 : Shape := ⟨3, ![128, 1, 128]⟩
abbrev S1x8x128 : Shape := ⟨3, ![1, 8, 128]⟩
abbrev S1x1 : Shape := ⟨2, ![1, 1]⟩
abbrev S64x1x128 : Shape := ⟨3, ![64, 1, 128]⟩
abbrev S64x128 : Shape := ⟨2, ![64, 128]⟩
abbrev S1x64x128 : Shape := ⟨3, ![1, 64, 128]⟩
abbrev S3x4096x64 : Shape := ⟨3, ![3, 4096, 64]⟩
abbrev S3x4096x1 : Shape := ⟨3, ![3, 4096, 1]⟩

abbrev nBuf : Space → Nat
  | .hbm => 14
  | .vmem => 13
  | .smem => 1
  | _ => 0

abbrev bufTy : (tb : Table) → Fin (tcTables nBuf tb) → BufTy
  | .hbm, ⟨0, _⟩ => ⟨S3x4096x128, .f32⟩
  | .hbm, ⟨1, _⟩ => ⟨S128x3584, .f32⟩
  | .hbm, ⟨2, _⟩ => ⟨S12288x128, .f32⟩
  | .hbm, ⟨3, _⟩ => ⟨S128x128, .f32⟩
  | .hbm, ⟨4, _⟩ => ⟨S12288x128, .f32⟩
  | .hbm, ⟨5, _⟩ => ⟨S3x64x4096, .i8⟩
  | .hbm, ⟨6, _⟩ => ⟨S96x128, .f32⟩
  | .hbm, ⟨7, _⟩ => ⟨S96x128, .f32⟩
  | .hbm, ⟨8, _⟩ => ⟨S3x4096x128, .f32⟩
  | .hbm, ⟨9, _⟩ => ⟨S3x4096x64, .i8⟩
  | .hbm, ⟨10, _⟩ => ⟨S3x4096x1, .f32⟩
  | .hbm, ⟨11, _⟩ => ⟨S96x128, .i32⟩
  | .hbm, ⟨12, _⟩ => ⟨S96x128, .i8⟩
  | .hbm, ⟨13, _⟩ => ⟨S3x4096x1, .i8⟩
  | .local _ .vmem, ⟨0, _⟩ => ⟨S1024x128, .f32⟩
  | .local _ .vmem, ⟨1, _⟩ => ⟨S1024x128, .f32⟩
  | .local _ .vmem, ⟨2, _⟩ => ⟨S1024x128, .f32⟩
  | .local _ .vmem, ⟨3, _⟩ => ⟨S1024x128, .f32⟩
  | .local _ .vmem, ⟨4, _⟩ => ⟨S1x64x1024, .i8⟩
  | .local _ .vmem, ⟨5, _⟩ => ⟨S1x64x1024, .i8⟩
  | .local _ .vmem, ⟨6, _⟩ => ⟨S8x128, .f32⟩
  | .local _ .vmem, ⟨7, _⟩ => ⟨S8x128, .f32⟩
  | .local _ .vmem, ⟨8, _⟩ => ⟨S8x128, .f32⟩
  | .local _ .vmem, ⟨9, _⟩ => ⟨S8x128, .f32⟩
  | .local _ .vmem, ⟨10, _⟩ => ⟨S128x8x128, .f32⟩
  | .local _ .vmem, ⟨11, _⟩ => ⟨S128x8x128, .f32⟩
  | .local _ .vmem, ⟨12, _⟩ => ⟨S64x8x128, .f32⟩
  | .local _ .smem, ⟨0, _⟩ => ⟨S128x128, .f32⟩
  | _, _ => ⟨S3x4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .smem, ⟨0, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v2_2 : Ref sig .tc := ⟨.hbm, 6, rfl⟩
abbrev main_v2_3 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S128x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x64x1024 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== GptqRefIdeal.lean ====
abbrev S3x4096x128 : Shape := ⟨3, ![3, 4096, 128]⟩
abbrev S128x3584 : Shape := ⟨2, ![128, 3584]⟩
abbrev S_ : Shape := ⟨0, ![]⟩
abbrev S3x4096 : Shape := ⟨2, ![3, 4096]⟩
abbrev S3x4096x1 : Shape := ⟨3, ![3, 4096, 1]⟩
abbrev S128x128 : Shape := ⟨2, ![128, 128]⟩
abbrev S1x128 : Shape := ⟨2, ![1, 128]⟩
abbrev S128 : Shape := ⟨1, ![128]⟩
abbrev S1 : Shape := ⟨1, ![1]⟩
abbrev S1x1x128 : Shape := ⟨3, ![1, 1, 128]⟩
abbrev S3x4096x64 : Shape := ⟨3, ![3, 4096, 64]⟩

abbrev nBuf : Space → Nat
  | .hbm => 129
  | .vmem => 0
  | .smem => 0
  | _ => 0

abbrev hbmTy0_0 (i : Nat) : BufTy := match i % 128 with
  | 0 => ⟨S3x4096x128, .f32⟩
  | 1 => ⟨S128x3584, .f32⟩
  | 2 => ⟨S_, .f32⟩
  | 3 => ⟨S3x4096, .f32⟩
  | 4 => ⟨S3x4096x1, .f32⟩
  | 5 => ⟨S_, .f32⟩
  | 6 => ⟨S3x4096x1, .f32⟩
  | 7 => ⟨S3x4096x1, .f32⟩
  | 8 => ⟨S_, .f32⟩
  | 9 => ⟨S3x4096, .f32⟩
  | 10 => ⟨S3x4096x1, .f32⟩
  | 11 => ⟨S_, .f32⟩
  | 12 => ⟨S3x4096x1, .f32⟩
  | 13 => ⟨S3x4096x1, .f32⟩
  | 14 => ⟨S3x4096x1, .i1⟩
  | 15 => ⟨S3x4096x1, .f32⟩
  | 16 => ⟨S_, .f32⟩
  | 17 => ⟨S3x4096x1, .f32⟩
  | 18 => ⟨S3x4096x1, .f32⟩
  | 19 => ⟨S_, .f32⟩
  | 20 => ⟨S_, .f32⟩
  | 21 => ⟨S3x4096x1, .f32⟩
  | 22 => ⟨S3x4096x1, .f32⟩
  | 23 => ⟨S3x4096x1, .f32⟩
  | 24 => ⟨S3x4096x1, .f32⟩
  | 25 => ⟨S3x4096x1, .f32⟩
  | 26 => ⟨S3x4096, .f32⟩
  | 27 => ⟨S3x4096, .f32⟩
  | 28 => ⟨S128x128, .f32⟩
  | 29 => ⟨S_, .i32⟩
  | 30 => ⟨S3x4096x128, .i32⟩
  | 31 => ⟨S_, .f32⟩
  | 32 => ⟨S3x4096x128, .f32⟩
  | 33 => ⟨S_, .i32⟩
  | 34 => ⟨S_, .i32⟩
  | 35 => ⟨S128x128, .f32⟩
  | 36 => ⟨S3x4096, .f32⟩
  | 37 => ⟨S3x4096, .f32⟩
  | 38 => ⟨S_, .i32⟩
  | 39 => ⟨S_, .i32⟩
  | 40 => ⟨S3x4096x128, .f32⟩
  | 41 => ⟨S3x4096x128, .i32⟩
  | 42 => ⟨S3x4096x128, .f32⟩
  | 43 => ⟨S_, .i32⟩
  | 44 => ⟨S_, .i1⟩
  | 45 => ⟨S_, .i32⟩
  | 46 => ⟨S_, .i32⟩
  | 47 => ⟨S_, .i32⟩
  | 48 => ⟨S_, .i1⟩
  | 49 => ⟨S_, .i32⟩
  | 50 => ⟨S_, .i32⟩
  | 51 => ⟨S_, .i32⟩
  | 52 => ⟨S_, .i32⟩
  | 53 => ⟨S_, .i32⟩
  | 54 => ⟨S1x128, .f32⟩
  | 55 => ⟨S128, .f32⟩
  | 56 => ⟨S_, .i32⟩
  | 57 => ⟨S_, .i1⟩
  | 58 => ⟨S_, .i32⟩
  | 59 => ⟨S_, .i32⟩
  | 60 => ⟨S_, .i32⟩
  | 61 => ⟨S_, .i32⟩
  | 62 => ⟨S1, .f32⟩
  | 63 => ⟨S_, .f32⟩
  | 64 => ⟨S_, .i32⟩
  | 65 => ⟨S_, .i1⟩
  | 66 => ⟨S_, .i32⟩
  | 67 => ⟨S_, .i32⟩
  | 68 => ⟨S_, .i32⟩
  | 69 => ⟨S_, .i32⟩
  | 70 => ⟨S_, .i32⟩
  | 71 => ⟨S_, .i32⟩
  | 72 => ⟨S3x4096x1, .f32⟩
  | 73 => ⟨S3x4096, .f32⟩
  | 74 => ⟨S3x4096, .f32⟩
  | 75 => ⟨S3x4096, .f32⟩
  | 76 => ⟨S3x4096, .f32⟩
  | 77 => ⟨S_, .f32⟩
  | 78 => ⟨S_, .f32⟩
  | 79 => ⟨S_, .f32⟩
  | 80 => ⟨S3x4096, .f32⟩
  | 81 => ⟨S3x4096, .f32⟩
  | 82 => ⟨S_, .f32⟩
  | 83 => ⟨S3x4096, .f32⟩
  | 84 => ⟨S3x4096, .f32⟩
  | 85 => ⟨S3x4096, .i32⟩
  | 86 => ⟨S3x4096, .f32⟩
  | 87 => ⟨S3x4096, .f32⟩
  | 88 => ⟨S3x4096, .f32⟩
  | 89 => ⟨S3x4096, .f32⟩
  | 90 => ⟨S3x4096, .f32⟩
  | 91 => ⟨S3x4096, .f32⟩
  | 92 => ⟨S3x4096x1, .f32⟩
  | 93 => ⟨S1x1x128, .f32⟩
  | 94 => ⟨S3x4096x128, .f32⟩
  | 95 => ⟨S3x4096x128, .f32⟩
  | 96 => ⟨S3x4096x128, .f32⟩
  | 97 => ⟨S3x4096x128, .f32⟩
  | 98 => ⟨S3x4096x1, .i32⟩
  | 99 => ⟨S_, .i32⟩
  | 100 => ⟨S_, .i1⟩
  | 101 => ⟨S_, .i32⟩
  | 102 => ⟨S_, .i32⟩
  | 103 => ⟨S_, .i32⟩
  | 104 => ⟨S_, .i32⟩
  | 105 => ⟨S_, .i32⟩
  | 106 => ⟨S_, .i32⟩
  | 107 => ⟨S3x4096x128, .i32⟩
  | 108 => ⟨S3x4096x1, .f32⟩
  | 109 => ⟨S_, .i32⟩
  | 110 => ⟨S_, .i1⟩
  | 111 => ⟨S_, .i32⟩
  | 112 => ⟨S_, .i32⟩
  | 113 => ⟨S_, .i32⟩
  | 114 => ⟨S_, .i32⟩
  | 115 => ⟨S_, .i32⟩
  | 116 => ⟨S_, .i32⟩
  | 117 => ⟨S3x4096x128, .f32⟩
  | 118 => ⟨S_, .i32⟩
  | 119 => ⟨S_, .i32⟩
  | 120 => ⟨S3x4096x64, .i32⟩
  | 121 => ⟨S3x4096x64, .i32⟩
  | 122 => ⟨S_, .i32⟩
  | 123 => ⟨S3x4096x64, .i32⟩
  | 124 => ⟨S3x4096x64, .i32⟩
  | 125 => ⟨S3x4096x64, .i32⟩
  | 126 => ⟨S3x4096x64, .i8⟩
  | 127 => ⟨S3x4096x1, .i32⟩
  | _ => ⟨S3x4096x128, .f32⟩

abbrev hbmTy0_1 (i : Nat) : BufTy := match i % 128 with
  | 0 => ⟨S3x4096x1, .i8⟩
  | _ => ⟨S3x4096x128, .f32⟩

abbrev hbmTy (i : Nat) : BufTy := match i / 128 with
  | 0 => hbmTy0_0 i
  | 1 => hbmTy0_1 i
  | _ => ⟨S3x4096x128, .f32⟩

abbrev bufTy : (tb : Table) → Fin (tcTables nBuf tb) → BufTy
  | .hbm, ⟨i, _⟩ => hbmTy i
  | _, _ => ⟨S3x4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_v5 : Ref sig .tc := ⟨.hbm, 10, rfl⟩
abbrev main_cst_2 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_3 : Ref sig .tc := ⟨.hbm, 16, rfl⟩
abbrev main_v10 : Ref sig .tc := ⟨.hbm, 17, rfl⟩
abbrev main_v11 : Ref sig .tc := ⟨.hbm, 18, rfl⟩
abbrev main_cst_4 : Ref sig .tc := ⟨.hbm, 19, rfl⟩
abbrev main_call0_v0 : Ref sig .tc := ⟨.hbm, 20, rfl⟩
abbrev main_call0_v1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c : Ref sig .tc := ⟨.hbm, 29, rfl⟩
abbrev main_v19 : Ref sig .tc := ⟨.hbm, 30, rfl⟩
abbrev main_cst_5 : Ref sig .tc := ⟨.hbm, 31, rfl⟩
abbrev main_v20 : Ref sig .tc := ⟨.hbm, 32, rfl⟩
abbrev main_c_6 : Ref sig .tc := ⟨.hbm, 33, rfl⟩
abbrev main_c_7 : Ref sig .tc := ⟨.hbm, 34, rfl⟩
abbrev main_v21_0 : Ref sig .tc := ⟨.hbm, 35, rfl⟩
abbrev main_v21_1 : Ref sig .tc := ⟨.hbm, 36, rfl⟩
abbrev main_v21_2 : Ref sig .tc := ⟨.hbm, 37, rfl⟩
abbrev main_v21_3 : Ref sig .tc := ⟨.hbm, 38, rfl⟩
abbrev main_v21_4 : Ref sig .tc := ⟨.hbm, 39, rfl⟩
abbrev main_v21_5 : Ref sig .tc := ⟨.hbm, 40, rfl⟩
abbrev main_v21_6 : Ref sig .tc := ⟨.hbm, 41, rfl⟩
abbrev main_v21_7 : Ref sig .tc := ⟨.hbm, 42, rfl⟩
abbrev main_while0c_c_16 : Ref sig .tc := ⟨.hbm, 43, rfl⟩
abbrev main_while0c_v30 : Ref sig .tc := ⟨.hbm, 44, rfl⟩
abbrev main_while0b_c_16 : Ref sig .tc := ⟨.hbm, 45, rfl⟩
abbrev main_while0b_v30 : Ref sig .tc := ⟨.hbm, 46, rfl⟩
abbrev main_while0b_call2_c : Ref sig .tc := ⟨.hbm, 47, rfl⟩
abbrev main_while0b_call2_v0 : Ref sig .tc := ⟨.hbm, 48, rfl⟩
abbrev main_while0b_call2_v1 : Ref sig .tc := ⟨.hbm, 49, rfl⟩
abbrev main_while0b_call2_c_0 : Ref sig .tc := ⟨.hbm, 50, rfl⟩
abbrev main_while0b_call2_v2 : Ref sig .tc := ⟨.hbm, 51, rfl⟩
abbrev main_while0b_call2_v3 : Ref sig .tc := ⟨.hbm, 52, rfl⟩
abbrev main_while0b_call2_c_1 : Ref sig .tc := ⟨.hbm, 53, rfl⟩
abbrev main_while0b_call2_v4 : Ref sig .tc := ⟨.hbm, 54, rfl⟩
abbrev main_while0b_v31 : Ref sig .tc := ⟨.hbm, 55, rfl⟩
abbrev main_while0b_call3_c : Ref sig .tc := ⟨.hbm, 56, rfl⟩
abbrev main_while0b_call3_v0 : Ref sig .tc := ⟨.hbm, 57, rfl⟩
abbrev main_while0b_call3_v1 : Ref sig .tc := ⟨.hbm, 58, rfl⟩
abbrev main_while0b_call3_c_0 : Ref sig .tc := ⟨.hbm, 59, rfl⟩
abbrev main_while0b_call3_v2 : Ref sig .tc := ⟨.hbm, 60, rfl⟩
abbrev main_while0b_call3_v3 : Ref sig .tc := ⟨.hbm, 61, rfl⟩
abbrev main_while0b_call3_v4 : Ref sig .tc := ⟨.hbm, 62, rfl⟩
abbrev main_while0b_v32 : Ref sig .tc := ⟨.hbm, 63, rfl⟩
abbrev main_while0b_call4_c : Ref sig .tc := ⟨.hbm, 64, rfl⟩
abbrev main_while0b_call4_v0 : Ref sig .tc := ⟨.hbm, 65, rfl⟩
abbrev main_while0b_call4_v1 : Ref sig .tc := ⟨.hbm, 66, rfl⟩
abbrev main_while0b_call4_c_0 : Ref sig .tc := ⟨.hbm, 67, rfl⟩
abbrev main_while0b_call4_v2 : Ref sig .tc := ⟨.hbm, 68, rfl⟩
abbrev main_while0b_call4_v3 : Ref sig .tc := ⟨.hbm, 69, rfl⟩
abbrev main_while0b_call4_c_1 : Ref sig .tc := ⟨.hbm, 70, rfl⟩
abbrev main_while0b_call4_c_2 : Ref sig .tc := ⟨.hbm, 71, rfl⟩
abbrev main_while0b_call4_v4 : Ref sig .tc := ⟨.hbm, 72, rfl⟩
abbrev main_while0b_v33 : Ref sig .tc := ⟨.hbm, 73, rfl⟩
abbrev main_while0b_v34 : Ref sig .tc := ⟨.hbm, 74, rfl⟩
abbrev main_while0b_v35 : Ref sig .tc := ⟨.hbm, 75, rfl⟩
abbrev main_while0b_v36 : Ref sig .tc := ⟨.hbm, 76, rfl⟩
abbrev main_while0b_cst_17 : Ref sig .tc := ⟨.hbm, 77, rfl⟩
abbrev main_while0b_cst_18 : Ref sig .tc := ⟨.hbm, 78, rfl⟩
abbrev main_while0b_call6_v0 : Ref sig .tc := ⟨.hbm, 79, rfl⟩
abbrev main_while0b_call6_v1 : Ref sig .tc := ⟨.hbm, 80, rfl⟩
abbrev main_while0b_call6_v2 : Ref sig .tc := ⟨.hbm, 81, rfl⟩
abbrev main_while0b_call6_v3 : Ref sig .tc := ⟨.hbm, 82, rfl⟩
abbrev main_while0b_call6_v4 : Ref sig .tc := ⟨.hbm, 83, rfl⟩
abbrev main_while0b_v37 : Ref sig .tc := ⟨.hbm, 84, rfl⟩
abbrev main_while0b_v38 : Ref sig .tc := ⟨.hbm, 85, rfl⟩
abbrev main_while0b_v39 : Ref sig .tc := ⟨.hbm, 86, rfl⟩
abbrev main_while0b_v40 : Ref sig .tc := ⟨.hbm, 87, rfl⟩
abbrev main_while0b_v41 : Ref sig .tc := ⟨.hbm, 88, rfl⟩
abbrev main_while0b_v42 : Ref sig .tc := ⟨.hbm, 89, rfl⟩
abbrev main_while0b_v43 : Ref sig .tc := ⟨.hbm, 90, rfl⟩
abbrev main_while0b_v44 : Ref sig .tc := ⟨.hbm, 91, rfl⟩
abbrev main_while0b_v45 : Ref sig .tc := ⟨.hbm, 92, rfl⟩
abbrev main_while0b_v46 : Ref sig .tc := ⟨.hbm, 93, rfl⟩
abbrev main_while0b_v47 : Ref sig .tc := ⟨.hbm, 94, rfl⟩
abbrev main_while0b_v48 : Ref sig .tc := ⟨.hbm, 95, rfl⟩
abbrev main_while0b_v49 : Ref sig .tc := ⟨.hbm, 96, rfl⟩
abbrev main_while0b_v50 : Ref sig .tc := ⟨.hbm, 97, rfl⟩
abbrev main_while0b_call7_v0 : Ref sig .tc := ⟨.hbm, 98, rfl⟩
abbrev main_while0b_call7_c : Ref sig .tc := ⟨.hbm, 99, rfl⟩
abbrev main_while0b_call7_v1 : Ref sig .tc := ⟨.hbm, 100, rfl⟩
abbrev main_while0b_call7_v2 : Ref sig .tc := ⟨.hbm, 101, rfl⟩
abbrev main_while0b_call7_c_0 : Ref sig .tc := ⟨.hbm, 102, rfl⟩
abbrev main_while0b_call7_v3 : Ref sig .tc := ⟨.hbm, 103, rfl⟩
abbrev main_while0b_call7_v4 : Ref sig .tc := ⟨.hbm, 104, rfl⟩
abbrev main_while0b_call7_c_1 : Ref sig .tc := ⟨.hbm, 105, rfl⟩
abbrev main_while0b_call7_c_2 : Ref sig .tc := ⟨.hbm, 106, rfl⟩
abbrev main_while0b_v51 : Ref sig .tc := ⟨.hbm, 107, rfl⟩
abbrev main_while0b_call8_v0 : Ref sig .tc := ⟨.hbm, 108, rfl⟩
abbrev main_while0b_call8_c : Ref sig .tc := ⟨.hbm, 109, rfl⟩
abbrev main_while0b_call8_v1 : Ref sig .tc := ⟨.hbm, 110, rfl⟩
abbrev main_while0b_call8_v2 : Ref sig .tc := ⟨.hbm, 111, rfl⟩
abbrev main_while0b_call8_c_0 : Ref sig .tc := ⟨.hbm, 112, rfl⟩
abbrev main_while0b_call8_v3 : Ref sig .tc := ⟨.hbm, 113, rfl⟩
abbrev main_while0b_call8_v4 : Ref sig .tc := ⟨.hbm, 114, rfl⟩
abbrev main_while0b_call8_c_1 : Ref sig .tc := ⟨.hbm, 115, rfl⟩
abbrev main_while0b_call8_c_2 : Ref sig .tc := ⟨.hbm, 116, rfl⟩
abbrev main_while0b_v52 : Ref sig .tc := ⟨.hbm, 117, rfl⟩
abbrev main_while0b_c_19 : Ref sig .tc := ⟨.hbm, 118, rfl⟩
abbrev main_while0b_v53 : Ref sig .tc := ⟨.hbm, 119, rfl⟩
abbrev main_v22 : Ref sig .tc := ⟨.hbm, 120, rfl⟩
abbrev main_v23 : Ref sig .tc := ⟨.hbm, 121, rfl⟩
abbrev main_c_8 : Ref sig .tc := ⟨.hbm, 122, rfl⟩
abbrev main_v24 : Ref sig .tc := ⟨.hbm, 123, rfl⟩
abbrev main_v25 : Ref sig .tc := ⟨.hbm, 124, rfl⟩
abbrev main_v26 : Ref sig .tc := ⟨.hbm, 125, rfl⟩
abbrev main_v27 : Ref sig .tc := ⟨.hbm, 126, rfl⟩
abbrev main_v28 : Ref sig .tc := ⟨.hbm, 127, rfl⟩
abbrev main_v29 : Ref sig .tc := ⟨.hbm, 128, rfl⟩

abbrev nD : Nat := 1
abbrev τ : Topo := Topo.v7x

variable {F : FTy → Type} [FloatOps F]

abbrev main_while0_count : Scf.Loop 32 := ⟨0#32, 128#32, 1#32⟩
-- ==== Proof.UpdBlock.lean ====
/-
  What one grid point of the update product computes, at the ideal instance.

  The kernel writes each operand as a sum of three pieces, rounds every piece to sixteen bits, and multiplies six pairs of
  pieces in one product over a concatenated axis of extent 768. On the extended reals a format change is the identity, so
  the first piece of `x` is `x` and the other two are `x - x`, which is zero where `x` is finite: five of the six products
  vanish and the sixth is the plain product.
-/
module

public import proofs.«01_k».proof.Proof.Gen.KernelIdeal.Skeleton
public import Idealize.ShloMosaic.Lib.Pointwise
public import Idealize.ShloMosaic.Lib.ValueIdx
public import Idealize.ShloMosaic.PureOps.Ideal.Laws

@[expose] public section

noncomputable section

namespace Cert.KernelIdeal.Upd

open Cert.KernelIdeal Cert.KernelIdeal.Gen Idealize.ShloMosaic

/-- An extended real that is neither infinity. -/
def Fin' (x : EReal) : Prop := x ≠ ⊤ ∧ x ≠ ⊥

theorem Fin'.sub_self {x : EReal} (h : Fin' x) : x - x = 0 := EReal.sub_self h.1 h.2

/-- A sum over 768 positions whose terms vanish except at the 128 positions from 512 on. -/
theorem sum_piece (f : Fin 768 → EReal) (g : Fin 128 → EReal) (h0 : ∀ k : Fin 768, k.val < 512 → f k = 0)
    (h1 : ∀ k : Fin 768, 640 ≤ k.val → f k = 0) (h : ∀ k : Fin 128, f ⟨512 + k.val, by omega⟩ = g k) :
    ∑ k, f k = ∑ k, g k := by
  rw [Fin.sum_univ_two_halves 512 256 rfl, Fin.sum_univ_two_halves 128 128 rfl]
  have e0 : (∑ k : Fin 512, f ⟨k.val, by omega⟩) = 0 := Finset.sum_eq_zero fun k _ => h0 _ k.isLt
  have e1 : (∑ k : Fin 128, f ⟨512 + (128 + k.val), by omega⟩) = 0 :=
    Finset.sum_eq_zero fun k _ => h1 _ (by show 640 ≤ 512 + (128 + k.val); omega)
  rw [e0, e1, zero_add, add_zero]
  exact Finset.sum_congr rfl fun k _ => h k

set_option maxHeartbeats 4000000 in
/-- THE BLOCK: of finite operands, the product of the six pairs of pieces is the product of the operands. -/
theorem pay_apply (x : Vec Ideal S1024x128 .f32) (y : Vec Ideal S128x1152 .f32)
    (hx : ∀ i, Fin' (x i)) (hy : ∀ i, Fin' (y i)) (j : S1024x1152.Idx) :
    k0_pay1 (F := Ideal) x y j = ∑ k : Fin 128, (x (ix2 (j 0) k) : EReal) * (y (ix2 k (j 1)) : EReal) := by
  have hx' : ∀ i, (x i : EReal) - x i = 0 := fun i => (hx i).sub_self
  have hy' : ∀ i, (y i : EReal) - y i = 0 := fun i => (hy i).sub_self
  pointwise [k0_pay1]
  simp only [hx', hy', sub_zero]
  refine sum_piece _ _ (fun k hk => ?_) (fun k hk => ?_) (fun k => ?_)
  · split_ifs <;> first | omega | exact mul_zero _ | exact zero_mul _
  · split_ifs <;> first | omega | exact mul_zero _ | exact zero_mul _
  · have hk := k.isLt
    have e : 512 + k.val - 128 - 128 - 128 - 128 = k.val := by omega
    rw [dif_neg, dif_neg, dif_neg, dif_neg, dif_pos, dif_neg, dif_neg, dif_neg, dif_neg, dif_pos] <;> try (dsimp only; omega)
    simp only [e, Fin.eta]

end Cert.KernelIdeal.Upd

end
-- ==== Proof.UpdValue.lean ====
/-
  The update product's whole run, at the ideal instance: where both arguments are finite the result array ends holding
  the matrix product of the error array and the last 3456 columns of the inverse-Hessian rows; and the host reference
  ends at the same function of its arguments.
-/
module

public import proofs.«01_k».proof.Defs
public import proofs.«01_k».proof.Proof.UpdBlock
public import proofs.«01_k».proof.Proof.Gen.KernelIdeal.Value
public import proofs.«01_k».proof.Proof.Gen.ReferenceIdeal.Run
public import proofs.«01_k».proof.Proof.Gen.Pre_finite
public import Idealize.ShloMosaic.Lib.ReduceAll
public import Idealize.ShloMosaic.Lib.Pipeline.Value

@[expose] public section

noncomputable section

namespace Cert.KernelIdeal.Upd

open Cert.KernelIdeal Cert.KernelIdeal.Gen Idealize.ShloMosaic Idealize.ShloMosaic.TcCoe Idealize.SL.Sem
open Idealize.ShloMosaic.Pipeline (Dat)

/-- THE PRODUCT: entry `(n, c)` is the sum over the 128 block columns of the error times the row's entry 128 columns on. -/
def prod (e : Vec Ideal S12288x128 .f32) (h : Vec Ideal S128x3584 .f32) : Vec Ideal S12288x3456 .f32 :=
  fun j => ∑ k : Fin 128, (e (ix2 (j 0) k) : EReal) * (h (ix2 k ⟨128 + (j 1).val, by have := (j 1).isLt; change (j 1).val < 3456 at this; omega⟩) : EReal)

variable (m : (ℓ : Loc nD τ sig) → Buf (Elt Ideal) ℓ) (ρ : Dev nD → PrngReg)

theorem hz : (![0, 0] : Fin 2 → Nat) = fun _ => 0 := funext fun a => by fin_cases a <;> rfl

/-- The sliced operand as the region finds it: column `c` of it is column `128 + c` of the argument. -/
theorem V_main_v0 (c : Dev nD) : V m c main_v0
    = extractStridedSlice S128x3456 ![0, 128] (m ((c : Thread nD τ).loc main_arg1)) slices_S128x3584_S128x3456_0_128 := by
  unfold V
  dsimp only [hostOps0, List.flatten_cons, List.flatten_nil, List.append_nil, List.cons_append, List.nil_append]
  after_results

/-- The block offsets in closed form: grid point `t` is row block `t % 12` of column block `t / 12`. -/
theorem idx_facts : ∀ t : Fin grid0.N,
    (win0_0.index t 0 * win0_0.size 0 = t.val % 12 * 1024 ∧ win0_0.index t 1 * win0_0.size 1 = 0)
    ∧ (win0_1.index t 0 * win0_1.size 0 = 0 ∧ win0_1.index t 1 * win0_1.size 1 = t.val / 12 * 1152)
    ∧ (win0_2.index t 0 * win0_2.size 0 = t.val % 12 * 1024 ∧ win0_2.index t 1 * win0_2.size 1 = t.val / 12 * 1152)
    ∧ (win0_2.xsize (grid0.coords t) 0 = 1024 ∧ win0_2.xsize (grid0.coords t) 1 = 1152) := by
  decide +kernel

/-- What point `t` writes back is block `t` of the product, where the arguments are finite. -/
theorem flushed_eq (c : Dev nD) (he : ∀ i, Fin' (m ((c : Thread nD τ).loc main_arg0) i))
    (hh : ∀ i, Fin' (m ((c : Thread nD τ).loc main_arg1) i)) (t : Fin cfg0.N) :
    (dats m 0 c).flushed 2 t = ((cfg0.win 2).blk t).view.read (Elt Ideal)
      (prod (m ((c : Thread nD τ).loc main_arg0)) (m ((c : Thread nD τ).loc main_arg1))) := by
  rw [Value.flushed2]
  unfold out0_2
  rw [View.canon_unit_zero hz, View.ld_unit_zero hz, View.ld_unit_zero hz]
  obtain ⟨⟨a0, a1⟩, ⟨b0, b1⟩, ⟨c0, c1⟩, -⟩ := idx_facts t
  funext j
  have hx : ∀ i, iblk m c 0 t i = m ((c : Thread nD τ).loc main_arg0)
      (((cfg0.win 0).blk t).view.emb i) := fun i => by
    show V m c main_arg0 _ = _
    rw [V_main_arg0]
  have hy : ∀ i, iblk m c 1 t i = extractStridedSlice S128x3456 ![0, 128] (m ((c : Thread nD τ).loc main_arg1)) slices_S128x3584_S128x3456_0_128
      (((cfg0.win 1).blk t).view.emb i) := fun i => by
    show V m c main_v0 _ = _
    rw [V_main_v0]
  refine (pay_apply (iblk m c 0 t) (iblk m c 1 t) (fun i => ?_) (fun i => ?_) _).trans ?_
  · rw [hx]; exact he _
  · rw [hy]; exact hh _
  show _ = prod _ _ (((cfg0.win 2).blk t).view.emb j)
  unfold prod
  refine Finset.sum_congr rfl fun k _ => ?_
  rw [hx, hy]
  refine congrArg₂ (fun a b : EReal => a * b) (congrArg _ ?_) ?_
  · refine funext fun a => Fin.ext ?_
    match a with
    | ⟨0, _⟩ =>
      show win0_0.index t 0 * win0_0.size 0 + 1 * (j 0).val = win0_2.index t 0 * win0_2.size 0 + 1 * (j 0).val
      omega
    | ⟨1, _⟩ =>
      show win0_0.index t 1 * win0_0.size 1 + 1 * k.val = k.val
      omega
  · refine congrArg (m ((c : Thread nD τ).loc main_arg1)) (funext fun a => Fin.ext ?_)
    match a with
    | ⟨0, _⟩ =>
      show 0 + (win0_1.index t 0 * win0_1.size 0 + 1 * k.val) = k.val
      omega
    | ⟨1, _⟩ =>
      show 128 + (win0_1.index t 1 * win0_1.size 1 + 1 * (j 1).val) = 128 + (win0_2.index t 1 * win0_2.size 1 + 1 * (j 1).val)
      omega

/-- An index of the result is in point `t`'s block: rows `t % 12` of twelve, columns `t / 12` of three. -/
theorem mem_blk (t : Fin cfg0.N) (i : S12288x3456.Idx) :
    i ∈ ((cfg0.win 2).blk t).view.set ↔ (t.val % 12 * 1024 ≤ (i 0 : Nat) ∧ (i 0 : Nat) < t.val % 12 * 1024 + 1024)
      ∧ (t.val / 12 * 1152 ≤ (i 1 : Nat) ∧ (i 1 : Nat) < t.val / 12 * 1152 + 1152) := by
  show i ∈ ((View.whole main_v1).slice (win0_2.rect t)).set ↔ _
  rw [View.set_slice_whole, Rect.mem_set_unit]
  obtain ⟨-, -, ⟨c0, c1⟩, d0, d1⟩ := idx_facts t
  refine ⟨fun h => ⟨?_, ?_⟩, fun h a => ?_⟩
  · have := h 0
    change win0_2.index t 0 * win0_2.size 0 ≤ (i 0 : Nat) ∧ (i 0 : Nat) < win0_2.index t 0 * win0_2.size 0 + win0_2.xsize (grid0.coords t) 0 at this
    rw [c0, d0] at this; exact this
  · have := h 1
    change win0_2.index t 1 * win0_2.size 1 ≤ (i 1 : Nat) ∧ (i 1 : Nat) < win0_2.index t 1 * win0_2.size 1 + win0_2.xsize (grid0.coords t) 1 at this
    rw [c1, d1] at this; exact this
  · match a with
    | ⟨0, _⟩ => show win0_2.index t 0 * win0_2.size 0 ≤ (i 0 : Nat) ∧ (i 0 : Nat) < win0_2.index t 0 * win0_2.size 0 + win0_2.xsize (grid0.coords t) 0
                rw [c0, d0]; exact h.1
    | ⟨1, _⟩ => show win0_2.index t 1 * win0_2.size 1 ≤ (i 1 : Nat) ∧ (i 1 : Nat) < win0_2.index t 1 * win0_2.size 1 + win0_2.xsize (grid0.coords t) 1
                rw [c1, d1]; exact h.2

/-- The blocks tile the result. -/
theorem cover (i : S12288x3456.Idx) :
    ∃ t : Fin cfg0.N, (cfg0.win 2).flush t = true ∧ i ∈ ((cfg0.win 2).blk t).view.set := by
  have h0 : (i 0 : Nat) < 12288 := (i 0).isLt
  have h1 : (i 1 : Nat) < 3456 := (i 1).isLt
  refine ⟨⟨(i 1 : Nat) / 1152 * 12 + (i 0 : Nat) / 1024, by show _ < grid0.N; rw [N_0]; omega⟩, flush0_2 _, ?_⟩
  rw [mem_blk]
  dsimp only
  omega

/-- So the result array ends holding the product, -/
theorem final_o (c : Dev nD) (he : ∀ i, Fin' (m ((c : Thread nD τ).loc main_arg0) i))
    (hh : ∀ i, Fin' (m ((c : Thread nD τ).loc main_arg1) i)) :
    (dats m 0 c).arrAt 2 cfg0.N = prod (m ((c : Thread nD τ).loc main_arg0)) (m ((c : Thread nD τ).loc main_arg1)) :=
  (dats m 0 c).arrAt_eq_of_cover 2 (prod (m ((c : Thread nD τ).loc main_arg0)) (m ((c : Thread nD τ).loc main_arg1)))
    (fun t _ => flushed_eq m c he hh t) cover

/-- `|x| < ∞` at the ideal instance says that `x` is neither infinity. -/
theorem fin_of_abs (x : EReal) (h : (FloatOps.cmpf (F := Ideal) (φ := .f32) .olt (FloatOps.hostAbsf (F := Ideal) (φ := .f32) x) (FloatOps.ofBits (F := Ideal) .f32 0x7F800000#32)) = 1#1) : Fin' x := by
  pointwise at h
  have htop : Ideal.ofBits .f32 0x7F800000#32 = ⊤ := by simp [Ideal.ofBits, Ideal.ieee]
  rw [htop] at h
  have h' : max x (-x) < ⊤ := by
    by_contra hn
    have : decide (FloatOps.absf (F := Ideal) (φ := .f32) x < (⊤ : EReal)) = false := decide_eq_false hn
    rw [this] at h
    exact absurd h (by decide)
  refine ⟨fun e => ?_, fun e => ?_⟩
  · subst e; simp at h'
  · subst e; simp at h'

/-- The precondition read at an index: every entry of both arguments is finite. -/
theorem fin_of_pre (e : Vec Ideal S12288x128 .f32) (h : Vec Ideal S128x3584 .f32)
    (hp : Cert.Pre_finite.fn (F := Ideal) e h = fun _ => 1#1) : (∀ i, Fin' (e i)) ∧ ∀ i, Fin' (h i) := by
  have h1 := congrFun hp (fun a => a.elim0)
  dsimp only [Cert.Pre_finite.fn] at h1
  have h2 := IntOp.andi_eq_one.mp h1
  haveI : Subsingleton Cert.Pre_finite.S_.Idx := ⟨fun a b => funext fun k => k.elim0⟩
  exact ⟨fun i => fin_of_abs _ (Host.reduce_andi_all _ _ _ _ _ h2.1 i), fun i => fin_of_abs _ (Host.reduce_andi_all _ _ _ _ _ h2.2 i)⟩

end Cert.KernelIdeal.Upd

namespace Cert.ReferenceIdeal.Upd

open Cert.ReferenceIdeal Cert.ReferenceIdeal.Gen Idealize.ShloMosaic Idealize.ShloMosaic.TcCoe Idealize.SL.Sem

/-- The reference's product, index by index. -/
theorem dot_eq (e : Vec Ideal S12288x128 .f32) (h : Vec Ideal S128x3584 .f32) :
    Host.dotGeneral (F := Ideal) (φ₁ := .f32) (φ₂ := .f32) dot_S12288x128_S128x3456_S12288x3456_1_0_0_1_n_n (some .fp32) (e : FVec Ideal S12288x128 .f32)
      (extractStridedSlice S128x3456 ![0, 128] (h : FVec Ideal S128x3584 .f32) slices_S128x3584_S128x3456_0_128) = Cert.KernelIdeal.Upd.prod e h := by
  funext j
  pointwise [Cert.KernelIdeal.Upd.prod]

end Cert.ReferenceIdeal.Upd

end
-- ==== Proof.GptqLoop.lean ====
/- The body of the quantisation call as a short program with loops: over the columns for the
   minimum and maximum, over the blocks of eight columns, over the earlier columns and over the
   columns of the block. It is generic in the arithmetic and in the buffers. -/
module

public import Idealize.ShloMosaic.Lib.Pipeline
public import Idealize.ShloMosaic.Lib.Scf
public import Idealize.ShloMosaic.Lib.Sig
public import Idealize.ShloMosaic.Lib.StableHlo
public import Idealize.ShloMosaic.PureOps

@[expose] public section

noncomputable section

namespace Cert.Gptq.Loop

open Idealize.ShloMosaic Idealize.SL.Sem

abbrev Sh128 : Shape := ⟨2, ![128, 128]⟩
abbrev Sh1024 : Shape := ⟨2, ![1024, 128]⟩
abbrev ShCodes : Shape := ⟨3, ![1, 64, 1024]⟩
abbrev ShCodesG : Shape := ⟨3, ![1, 64, 128]⟩
abbrev ShCol : Shape := ⟨2, ![8, 128]⟩
abbrev ShRow : Shape := ⟨3, ![1, 8, 128]⟩
abbrev ShX : Shape := ⟨3, ![128, 8, 128]⟩
abbrev ShXG : Shape := ⟨3, ![128, 1, 128]⟩
abbrev ShC : Shape := ⟨3, ![64, 8, 128]⟩
abbrev ShCG : Shape := ⟨3, ![64, 1, 128]⟩
abbrev ShCG2 : Shape := ⟨2, ![64, 128]⟩
abbrev ShOne : Shape := ⟨2, ![1, 1]⟩

theorem cast_row : ShRow.ShapeCasts ShCol := by decide
theorem cast_col : ShCol.ShapeCasts ShRow := by decide
theorem cast_sq : Sh128.ShapeCasts Sh128 := by decide
theorem cast_xg : ShXG.ShapeCasts Sh128 := by decide
theorem cast_sqx : Sh128.ShapeCasts ShXG := by decide
theorem cast_cg : ShCG.ShapeCasts ShCG2 := by decide
theorem cast_kg : ShCG2.ShapeCasts ShCodesG := by decide
theorem tr_sq : Sh128.Transposes [1, 0] Sh128 := by decide
theorem pos_row : 0 < ShRow.numel := by decide
theorem pos_sq : 0 < Sh128.numel := by decide
theorem pos_xg : 0 < ShXG.numel := by decide
theorem pos_col : 0 < ShCol.numel := by decide
theorem pos_cg : 0 < ShCG.numel := by decide
theorem pos_kg : 0 < ShCodesG.numel := by decide
theorem one_one : ShOne.numel = 1 := by decide

/-- Rows `128 g …` of the block of weights. -/
@[implicit_reducible] def rW (g : Fin 8) : Rect Sh1024 := Rect.unit (s := Sh1024) ![128 * g.val, 0] Sh128.size (by
  intro a; fin_cases a <;> simp <;> omega)
/-- Rows `g` of every column's tile. -/
@[implicit_reducible] def rXG (g : Fin 8) : Rect ShX := Rect.unit (s := ShX) ![0, g.val, 0] ShXG.size (by
  intro a; fin_cases a <;> simp <;> omega)
/-- The tile of column `k`. -/
@[implicit_reducible] def rX (k : Fin 128) : Rect ShX := Rect.unit (s := ShX) ![k.val, 0, 0] ShRow.size (by
  intro a; fin_cases a <;> simp <;> omega)
/-- The tile of the pair `k` of codes. -/
@[implicit_reducible] def rC (k : Fin 64) : Rect ShC := Rect.unit (s := ShC) ![k.val, 0, 0] ShRow.size (by
  intro a; fin_cases a <;> simp <;> omega)
/-- Rows `g` of every pair's tile. -/
@[implicit_reducible] def rCG (g : Fin 8) : Rect ShC := Rect.unit (s := ShC) ![0, g.val, 0] ShCG.size (by
  intro a; fin_cases a <;> simp <;> omega)
/-- Columns `128 g …` of the block of codes. -/
@[implicit_reducible] def rK (g : Fin 8) : Rect ShCodes := Rect.unit (s := ShCodes) ![0, 0, 128 * g.val] ShCodesG.size (by
  intro a; fin_cases a <;> simp <;> omega)
/-- One entry of the matrix in scalar memory. -/
@[implicit_reducible] def rH (j k : Fin 128) : Rect Sh128 := Rect.unit (s := Sh128) ![j.val, k.val] ShOne.size (by
  intro a; fin_cases a <;> simp <;> omega)
/-- A whole tile. -/
@[implicit_reducible] def rT : Rect ShCol := Rect.unit (s := ShCol) ![0, 0] ShCol.size (by
  intro a; fin_cases a <;> simp)

/-- `f 0, f 1, …, f (n - 1)` run in this order over a state. -/
def forN {E : Type → Type} {σ : Type} (n : Nat) (f : Fin n → σ → Prog E σ) : σ → Prog E σ :=
  Nat.rec (motive := fun m => m ≤ n → σ → Prog E σ) (fun _ s => pure s)
    (fun m ih h s => f ⟨n - (m + 1), by omega⟩ s >>= fun s' => ih (by omega) s') n (Nat.le_refl n)

variable {F : FTy → Type} [FloatOps F] {nD : Nat} {τ : Topo} {sig : RefSig} {Λ : Labels}

/-- A tile of one column: 8 × 128 rows of the weights. -/
abbrev Col (F : FTy → Type) : Type := FVec F ShCol .f32

/-- A constant tile. -/
def bc (F : FTy → Type) [FloatOps F] (b : BitVec 32) : Col F := broadcast ShCol (Scalar.ofBits .f32 b)

section
variable (arg1 : Memref sig .tc .smem Sh128 .f32) (arg2 arg3 : Memref sig .tc .vmem Sh1024 .f32)
  (arg4 : Memref sig .tc .vmem ShCodes .i8) (arg5 arg6 : Memref sig .tc .vmem ShCol .f32)
  (arg7 arg8 : Memref sig .tc .vmem ShX .f32) (arg9 : Memref sig .tc .vmem ShC .f32)

/-- One group of 128 rows of the weights, transposed into the columns' tiles. -/
def fillStep (g : Fin 8) (_ : PUnit.{1}) : Prog (TpuEff nD τ sig (Elt F) Λ .tc) PUnit := do
  let v : Vec F Sh128 .f32 ← Prog.lift (.load arg2 (rW g).toLoadRect (View.loadsAt_vmem pos_sq))
  let _ : Vec F ShXG .f32 ← Prog.lift (.load arg7 (rXG g).toLoadRect (View.loadsAt_vmem pos_xg))
  Prog.lift (.store arg7 (rXG g)
    (shapeCast ShXG (transpose Sh128 [1, 0] (shapeCast Sh128 v cast_sq) tr_sq) cast_sqx)
    Finset.univ (View.stores_vmem_bits_univ pos_xg rfl) (.inl rfl))

/-- The tile of column `k`. -/
def loadX (m : Memref sig .tc .vmem ShX .f32) (k : Fin 128) : Prog (TpuEff nD τ sig (Elt F) Λ .tc) (Col F) := do
  let v : Vec F ShRow .f32 ← Prog.lift (.load m (rX k).toLoadRect (View.loadsAt_vmem pos_row))
  pure (shapeCast ShCol v cast_row)

/-- The minimum and the maximum with one more column. -/
def minmaxStep (k : Fin 128) (s : Col F × Col F) : Prog (TpuEff nD τ sig (Elt F) Λ .tc) (Col F × Col F) := do
  let x ← loadX arg7 k
  pure (minimumf s.1 x, maximumf s.2 x)

/-- The step of the quantiser, -/
def scaleOf (lo hi : Col F) : Col F :=
  select (cmpf .oeq hi lo) (bc F 0x3F800000#32) (divf (subf hi lo) (bc F 0x41700000#32))

/-- and its zero point. -/
def zeroOf (lo scale : Col F) : Col F := roundeven (divf (subf (bc F 0x00000000#32) lo) scale)

/-- The code of one column. -/
def codeOf (scale zero w : Col F) : Col F :=
  minimumf (bc F 0x41700000#32) (maximumf (bc F 0x00000000#32) (addf (roundeven (divf w scale)) zero))

/-- The error of one column, `d` being the diagonal entry. -/
def errOf (scale zero w : Col F) (d : F .f32) : Col F :=
  divf (subf w (mulf (subf (codeOf scale zero w) zero) scale)) (broadcast ShCol d)

/-- A column `8 b + i`. -/
def colIx (b : Fin 16) (i : Fin 8) : Fin 128 := ⟨8 * b.val + i.val, by omega⟩

/-- Eight values, the `m`-th replaced. -/
def put {α : Type} (h : Fin 8 → α) (m : Nat) (v : α) : Fin 8 → α :=
  fun i => cond (Nat.beq i.val m) v (h i)

/-- Entries `lo, …, 7` of row `j` of the matrix at block `b`. -/
def rowLoads (b : Fin 16) (j : Fin 128) (lo : Fin 9) : Prog (TpuEff nD τ sig (Elt F) Λ .tc) (Fin 8 → F .f32) :=
  forN (8 - lo.val) (fun m h => do
    let v : Elt F .f32 ← smemLoad arg1 (rH j (colIx b ⟨8 - (8 - lo.val) + m.val, by omega⟩)) one_one rfl
    pure (put h (8 - (8 - lo.val) + m.val) v)) (fun _ => Scalar.ofBits .f32 0x00000000#32)

/-- The accumulators after one column's error. -/
def accStep (acc : Fin 8 → Col F) (e : Col F) (h : Fin 8 → F .f32) : Fin 8 → Col F :=
  fun i => subf (acc i) (mulf e (broadcast ShCol (h i)))

/-- The block's eight columns. -/
def initLoads (b : Fin 16) : Prog (TpuEff nD τ sig (Elt F) Λ .tc) (Fin 8 → Col F) :=
  forN 8 (fun m a => do
    let x ← loadX arg7 (colIx b m)
    pure (put a m.val x)) (fun _ => bc F 0x00000000#32)

/-- One earlier column `j` taken off the block. -/
def backStep (b : Fin 16) (j : Fin (8 * b.val)) (acc : Fin 8 → Col F) :
    Prog (TpuEff nD τ sig (Elt F) Λ .tc) (Fin 8 → Col F) := do
  let e ← loadX arg8 ⟨j.val, by omega⟩
  let h ← rowLoads arg1 b ⟨j.val, by omega⟩ 0
  pure (accStep acc e h)

/-- Column `8 b + i` of the block quantised. -/
def colStep (scale zero : Col F) (b : Fin 16) (i : Fin 8) (s : (Fin 8 → Col F) × Col F) :
    Prog (TpuEff nD τ sig (Elt F) Λ .tc) ((Fin 8 → Col F) × Col F) := do
  let d : Elt F .f32 ← smemLoad arg1 (rH (colIx b i) (colIx b i)) one_one rfl
  let _ : Vec F ShRow .f32 ← Prog.lift (.load arg8 (rX (colIx b i)).toLoadRect (View.loadsAt_vmem pos_row))
  Prog.lift (.store arg8 (rX (colIx b i)) (shapeCast ShRow (errOf scale zero (s.1 i) d) cast_col)
    Finset.univ (View.stores_vmem_bits_univ pos_row rfl) (.inl rfl))
  let h ← rowLoads arg1 b (colIx b i) i.succ
  cond (Nat.beq (i.val % 2) 1)
    (do
      let _ : Vec F ShRow .f32 ← Prog.lift (.load arg9 (rC ⟨(8 * b.val + i.val) / 2, by omega⟩).toLoadRect (View.loadsAt_vmem pos_row))
      Prog.lift (.store arg9 (rC ⟨(8 * b.val + i.val) / 2, by omega⟩)
        (shapeCast ShRow (addf s.2 (mulf (codeOf scale zero (s.1 i)) (bc F 0x41800000#32))) cast_col)
        Finset.univ (View.stores_vmem_bits_univ pos_row rfl) (.inl rfl)))
    (pure ⟨⟩)
  pure (accStep s.1 (errOf scale zero (s.1 i) d) h, codeOf scale zero (s.1 i))

/-- One block of eight columns. -/
def blockStep (scale zero : Col F) (b : Fin 16) (_ : PUnit.{1}) : Prog (TpuEff nD τ sig (Elt F) Λ .tc) PUnit := do
  let a ← initLoads arg7 b
  let a ← forN (8 * b.val) (backStep arg1 arg8 b) a
  let _ ← forN 8 (colStep arg1 arg8 arg9 scale zero b) (a, bc F 0x00000000#32)
  pure ⟨⟩

/-- One group of 128 rows of errors and codes written out. -/
def outStep (h4 : ∀ g : Fin 8, (arg4.access (rK g)).Stores Finset.univ) (g : Fin 8) (_ : PUnit.{1}) :
    Prog (TpuEff nD τ sig (Elt F) Λ .tc) PUnit := do
  let v : Vec F ShXG .f32 ← Prog.lift (.load arg8 (rXG g).toLoadRect (View.loadsAt_vmem pos_xg))
  let _ : Vec F Sh128 .f32 ← Prog.lift (.load arg3 (rW g).toLoadRect (View.loadsAt_vmem pos_sq))
  Prog.lift (.store arg3 (rW g) (transpose Sh128 [1, 0] (shapeCast Sh128 v cast_xg) tr_sq)
    Finset.univ (View.stores_vmem_bits_univ pos_sq rfl) (.inl rfl))
  let c : Vec F ShCG .f32 ← Prog.lift (.load arg9 (rCG g).toLoadRect (View.loadsAt_vmem pos_cg))
  let _ : Vec F ShCodesG .i8 ← Prog.lift (.load arg4 (rK g).toLoadRect (View.loadsAt_vmem pos_kg))
  Prog.lift (.store arg4 (rK g)
    (shapeCast ShCodesG (trunci 8 (fptosi 32 (shapeCast ShCG2 c cast_cg)) (by decide)) cast_kg)
    Finset.univ (h4 g) (.inl rfl))

/-- The whole body. -/
def body (h4 : ∀ g : Fin 8, (arg4.access (rK g)).Stores Finset.univ) :
    Prog (TpuEff nD τ sig (Elt F) Λ .tc) PUnit := do
  let _ ← forN 8 (fillStep arg2 arg7) ⟨⟩
  let s ← forN 128 (minmaxStep arg7) (bc F 0x00000000#32, bc F 0x00000000#32)
  let _ : Vec F ShCol .f32 ← Prog.lift (.load arg5 rT.toLoadRect (View.loadsAt_vmem pos_col))
  Prog.lift (.store arg5 rT (scaleOf s.1 s.2) Finset.univ (View.stores_vmem_bits_univ pos_col rfl) (.inl rfl))
  let _ : Vec F ShCol .f32 ← Prog.lift (.load arg6 rT.toLoadRect (View.loadsAt_vmem pos_col))
  Prog.lift (.store arg6 rT (zeroOf s.1 (scaleOf s.1 s.2)) Finset.univ (View.stores_vmem_bits_univ pos_col rfl) (.inl rfl))
  let _ ← forN 16 (blockStep arg1 arg7 arg8 arg9 (scaleOf s.1 s.2) (zeroOf s.1 (scaleOf s.1 s.2))) ⟨⟩
  forN 8 (outStep arg3 arg4 arg8 arg9 h4) ⟨⟩

end

end Cert.Gptq.Loop
-- ==== Proof.GptqText.lean ====
/- The body of the quantising call as printed is the loop program: the printed body is the loops of
   Proof/GptqLoop.lean unrolled, operation for operation. -/
module

public import proofs.«01_k».proof.Gptq
public import proofs.«01_k».proof.Proof.GptqLoop
public import Idealize.ShloMosaic.Lib.Tactic

@[expose] public section

noncomputable section

namespace Cert.Gptq.Text

open Idealize.ShloMosaic Idealize.SL.Sem Cert.Gptq Cert.Gptq.Loop
open Shapes9.Facts₀

variable {F : FTy → Type} [FloatOps F] [Facts]

/-- A group of packed codes fills whole words of its buffer. -/
theorem packed4 : ∀ g : Fin 8, (rK g).PackedRows (EltTy.packing .i8)
  | 0 => packedi8_S1x64x1024_S1x64x128_0_0_0
  | 1 => packedi8_S1x64x1024_S1x64x128_0_0_128
  | 2 => packedi8_S1x64x1024_S1x64x128_0_0_256
  | 3 => packedi8_S1x64x1024_S1x64x128_0_0_384
  | 4 => packedi8_S1x64x1024_S1x64x128_0_0_512
  | 5 => packedi8_S1x64x1024_S1x64x128_0_0_640
  | 6 => packedi8_S1x64x1024_S1x64x128_0_0_768
  | 7 => packedi8_S1x64x1024_S1x64x128_0_0_896

/-- A store of a group of packed codes writes whole words. -/
theorem stores4 {arg4 : Memref sig .tc .vmem S1x64x1024 .i8} (harg4 : arg4.IsWhole) (g : Fin 8) :
    (arg4.access (rK g)).Stores Finset.univ :=
  View.stores_vmem pos_kg (harg4.storeExact_slice rfl _ (packed4 g)) (fun _ => rfl)

/-- The printed body is the loop program. -/
theorem program_eq (i : grid0.Coords) (arg1 : Memref sig .tc .smem S128x128 .f32) (harg1 : arg1.IsWhole)
    (arg2 : Memref sig .tc .vmem S1024x128 .f32) (harg2 : arg2.IsWhole) (arg3 : Memref sig .tc .vmem S1024x128 .f32) (harg3 : arg3.IsWhole)
    (arg4 : Memref sig .tc .vmem S1x64x1024 .i8) (harg4 : arg4.IsWhole) (arg5 : Memref sig .tc .vmem S8x128 .f32) (harg5 : arg5.IsWhole)
    (arg6 : Memref sig .tc .vmem S8x128 .f32) (harg6 : arg6.IsWhole) (arg7 : Memref sig .tc .vmem S128x8x128 .f32) (harg7 : arg7.IsWhole)
    (arg8 : Memref sig .tc .vmem S128x8x128 .f32) (harg8 : arg8.IsWhole) (arg9 : Memref sig .tc .vmem S64x8x128 .f32) (harg9 : arg9.IsWhole) :
    cc0_gptq (F := F) i arg1 harg1 arg2 harg2 arg3 harg3 arg4 harg4 arg5 harg5 arg6 harg6 arg7 harg7 arg8 harg8 arg9 harg9
      = body arg1 arg2 arg3 arg4 arg5 arg6 arg7 arg8 arg9 (stores4 harg4) := by
  sl_kernel_rfl

end Cert.Gptq.Text

end
-- ==== Proof.GptqRules.lean ====
/- The loop program's steps over owned buffers: a load reads the owned contents, a store overlays
   them, a scalar load reads one entry, and a loop keeps an invariant. -/
module

public import proofs.«01_k».proof.Proof.GptqLoop
public import Idealize.ShloMosaic.Lib.Pipeline.FrameBody
public import Idealize.ShloMosaic.Lib.Tactic

@[expose] public section

noncomputable section

namespace Cert.Gptq.Loop

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] {nD : Nat} {τ : Topo} {sig : RefSig} {Λ : Labels}

local notation "𝕄" => MT nD τ sig Unit (Elt F) ℕ (UR sig nD τ) ℕ

variable (defs : Defs nD τ sig (Elt F) Λ) (c : Dev nD) (E : Set ℕ)

/-- The weakest precondition on the TensorCore of device `c`. -/
abbrev W {α : Type} (p : Prog (TpuEff nD τ sig (Elt F) Λ .tc) α) (Q : α → sProp 𝕄) : sProp 𝕄 :=
  wp frame (wpE defs Variants.none (c : Thread nD τ) none) E p Q

theorem W_pure {α : Type} (a : α) (Q : α → sProp 𝕄) : Q a ⊢ W defs c E (pure a) Q := by
  rw [W, wp_pure]; exact fupd_intro

theorem W_load {cs : CoreSpace} {s : Shape} {e : EltTy} (m : Memref sig .tc cs s e) (r : Rect s)
    (hl : m.view.LoadsAt r.toLoadRect) (X : s.Idx → Elt F e) (Q : (r.shape.Idx → Elt F e) → sProp 𝕄) :
    owns (c : Thread nD τ) m fullShare X
      ⊢ iprop((owns (c : Thread nD τ) m fullShare X -∗ Q (fun x => X (r.emb x)))
        -∗ W defs c E (Prog.lift (.load m r.toLoadRect hl)) Q) := by
  unfold owns
  iintro ⟨%f, %hf, H⟩ Hk
  subst hf
  have hr : (m.access r).read (Elt F) f = fun x => m.view.read (Elt F) f (r.emb x) := rfl
  iapply (wp_load_rect (defs := defs) Variants.none (c : Thread nD τ) none E (Γ := .empty) (Q := Q) (m := m) (r := r) (hl := hl)
    (k := Prog.ret) (q := fullShare) (f := f) (S := m.view.set) (m.view.set_slice_subset r)) $$ H
  iintro H
  rw [wp_ret, hr]
  imodintro
  iapply Hk
  iexists f
  isplitr
  · ipureintro; rfl
  iexact H

theorem W_store {cs : CoreSpace} {s : Shape} {e : EltTy} (m : Memref sig .tc cs s e) (r : Rect s)
    (w : r.shape.Idx → Elt F e) (hx : (m.access r).Stores Finset.univ)
    (hm : Finset.univ = Finset.univ ∨ ∀ a, r.stride a = 1) (X : s.Idx → Elt F e) (Q : PUnit → sProp 𝕄) :
    owns (c : Thread nD τ) m fullShare X
      ⊢ iprop((owns (c : Thread nD τ) m fullShare (r.overlay X w) -∗ Q ⟨⟩)
        -∗ W defs c E (Prog.lift (.store m r w Finset.univ hx hm)) Q) := by
  unfold owns
  iintro ⟨%f, %hf, H⟩ Hk
  subst hf
  iapply (wp_store (defs := defs) Variants.none (c : Thread nD τ) none E (Γ := .empty) (Q := Q) (m := m) (r := r) (w := w)
    (hx := hx) (hm := hm) (k := Prog.ret) (f := f) (S := m.view.set)
    (by rw [View.setOn_univ]; exact m.view.set_slice_subset r)) $$ H
  iintro H
  rw [wp_ret]
  imodintro
  iapply Hk
  iexists _
  isplitr
  swap
  · iexact H
  ipureintro
  funext j
  by_cases hj : j ∈ r.set
  · obtain ⟨i, rfl⟩ : ∃ i, r.emb i = j := r.exists_idx_of_mem hj
    rw [Rect.overlay_emb]
    exact View.read_slice_write_emb r _ w (Finset.mem_univ i)
  · rw [Rect.overlay_of_not_mem _ _ _ hj]
    exact View.read_slice_write_of_not_mem r _ _ _ (by rwa [Rect.map_emb_univ])

theorem W_smem {s : Shape} {e : EltTy} (m : Memref sig .tc .smem s e) (r : Rect s) (h1 : r.shape.numel = 1)
    (hp : e.packing = 1) (X : s.Idx → Elt F e) (Q : Elt F e → sProp 𝕄) :
    owns (c : Thread nD τ) m fullShare X
      ⊢ iprop((owns (c : Thread nD τ) m fullShare X -∗ Q (X (r.emb (Shape.Idx.first (h1.symm ▸ Nat.one_pos)))))
        -∗ W defs c E (smemLoad m r h1 hp) Q) := by
  unfold owns
  iintro ⟨%f, %hf, H⟩ Hk
  subst hf
  have hr : (m.access r).read (Elt F) f = fun x => m.view.read (Elt F) f (r.emb x) := rfl
  unfold smemLoad
  iapply (wp_smemLoadElt (defs := defs) Variants.none (c : Thread nD τ) none E (Γ := .empty) (Q := Q) (m := m) (r := r)
    (k := Prog.ret) (q := fullShare) (f := f) (S := m.view.set) (m.view.set_slice_subset r)) $$ H
  iintro H
  rw [wp_ret, hr]
  imodintro
  iapply Hk
  iexists f
  isplitr
  · ipureintro; rfl
  iexact H

/-- A loop: an invariant `I j s` kept by each step holds at the end. -/
theorem W_forN {σ : Type} (n : Nat) (f : Fin n → σ → Prog (TpuEff nD τ sig (Elt F) Λ .tc) σ)
    (I : Nat → σ → sProp 𝕄)
    (step : ∀ (j : Fin n) (s : σ) (Q : σ → sProp 𝕄),
      I j.val s ⊢ iprop((∀ s', I (j.val + 1) s' -∗ Q s') -∗ W defs c E (f j s) Q))
    (s : σ) (Q : σ → sProp 𝕄) :
    I 0 s ⊢ iprop((∀ s', I n s' -∗ Q s') -∗ W defs c E (forN n f s) Q) := by
  have key : ∀ (m : Nat) (h : m ≤ n) (s : σ) (Q : σ → sProp 𝕄),
      I (n - m) s ⊢ iprop((∀ s', I n s' -∗ Q s') -∗ W defs c E
        (Nat.rec (motive := fun m => m ≤ n → σ → Prog (TpuEff nD τ sig (Elt F) Λ .tc) σ) (fun _ s => pure s)
          (fun m ih h s => f ⟨n - (m + 1), by omega⟩ s >>= fun s' => ih (by omega) s') m h s) Q) := by
    intro m
    induction m with
    | zero =>
      intro h s Q
      iintro H Hk
      iapply (W_pure defs c E s Q)
      iapply Hk
      iexact H
    | succ m ih =>
      intro h s Q
      change _ ⊢ iprop((∀ s', I n s' -∗ Q s') -∗ W defs c E (f ⟨n - (m + 1), by omega⟩ s >>= fun s' =>
        Nat.rec (motive := fun m => m ≤ n → σ → Prog (TpuEff nD τ sig (Elt F) Λ .tc) σ) (fun _ s => pure s)
          (fun m ih h s => f ⟨n - (m + 1), by omega⟩ s >>= fun s' => ih (by omega) s') m (by omega) s') Q)
      have hlt : n - (m + 1) < n := by omega
      have hm : m ≤ n := by omega
      rw [W, wp_bind]
      iintro H Hk
      iapply (step (⟨n - (m + 1), hlt⟩ : Fin n) s _) $$ H
      iintro %s' H
      rw [show n - (m + 1) + 1 = n - m by omega]
      iapply (ih hm s' Q) $$ H
      iexact Hk
  have := key n (Nat.le_refl n) s Q
  rwa [Nat.sub_self] at this

end Cert.Gptq.Loop
-- ==== Proof.GptqSpec.lean ====
/- What the loop program computes, as functions of the matrix and of the block of weights: the
   columns' tiles, the quantiser's step and zero point, the errors by recursion over the columns,
   and the four output blocks. -/
module

public import proofs.«01_k».proof.Proof.GptqLoop
public import Idealize.ShloMosaic.Lib.Pointwise
public import Idealize.ShloMosaic.Lib.ValueIdx

@[expose] public section

noncomputable section

namespace Cert.Gptq.Loop

open Idealize.ShloMosaic Idealize.SL.Sem

variable {F : FTy → Type} [FloatOps F]

/-- The tile of column `k` of an array of tiles. -/
def rowOf (X : ShX.Idx → Elt F .f32) (k : Fin 128) : Col F :=
  fun y => X (ix3 k (y 0) (y 1))

/-- The tile of pair `k` of an array of tiles. -/
def rowC (X : ShC.Idx → Elt F .f32) (k : Fin 64) : Col F :=
  fun y => X (ix3 k (y 0) (y 1))

/-- The columns' tiles of a block of weights: row `128 s + l`, column `k` at `(k, s, l)`. -/
def tiles (w : Sh1024.Idx → Elt F .f32) : ShX.Idx → Elt F .f32 := fun i =>
  w (ix2 (⟨128 * (i 1).val + (i 2).val, by have h1 : (i 1).val < 8 := (i 1).isLt; have h2 : (i 2).val < 128 := (i 2).isLt; omega⟩ : Fin 1024) (i 0))

/-- Column `k`, counted modulo 128. -/
def wrap (k : Nat) : Fin 128 := ⟨k % 128, Nat.mod_lt _ (by decide)⟩

theorem wrap_val (k : Fin 128) : wrap k.val = k := Fin.ext (Nat.mod_eq_of_lt k.isLt)

theorem wrap_lt {k : Nat} (h : k < 128) : wrap k = ⟨k, h⟩ := Fin.ext (Nat.mod_eq_of_lt h)

/-- Entry `(j, k)` of the matrix. -/
def hAt (H : Sh128.Idx → Elt F .f32) (j k : Fin 128) : F .f32 := H (ix2 j k)

/-- The running minimum and maximum over the first `n` columns, from zero. -/
def extrema (X : ShX.Idx → Elt F .f32) : Nat → Col F × Col F
  | 0 => (bc F 0x00000000#32, bc F 0x00000000#32)
  | n + 1 => (minimumf (extrema X n).1 (rowOf X (wrap n)), maximumf (extrema X n).2 (rowOf X (wrap n)))

/-- The step of a block of weights. -/
def scaleB (w : Sh1024.Idx → Elt F .f32) : Col F :=
  scaleOf (extrema (tiles w) 128).1 (extrema (tiles w) 128).2

/-- The zero point of a block of weights. -/
def zeroB (w : Sh1024.Idx → Elt F .f32) : Col F := zeroOf (extrema (tiles w) 128).1 (scaleB w)

section
variable (H : Sh128.Idx → Elt F .f32) (X : ShX.Idx → Elt F .f32) (scale zero : Col F)

/-- Column `k` after the first `n` columns' errors `er` are taken off it. -/
def part (er : Nat → Col F) (k : Fin 128) : Nat → Col F
  | 0 => rowOf X k
  | n + 1 => subf (part er k n) (mulf (er n) (broadcast ShCol (hAt H (wrap n) k)))

theorem part_congr {er er' : Nat → Col F} (k : Fin 128) : ∀ n, (∀ j < n, er j = er' j) →
    part H X er k n = part H X er' k n
  | 0, _ => rfl
  | n + 1, h => by
    rw [part, part, part_congr k n fun j hj => h j (by omega), h n (by omega)]

/-- The errors of the first `n` columns. -/
def errsTo : Nat → Nat → Col F
  | 0 => fun _ => bc F 0x00000000#32
  | n + 1 => fun j => cond (Nat.beq j n)
      (errOf scale zero (part H X (errsTo n) (wrap n) n) (hAt H (wrap n) (wrap n))) (errsTo n j)

/-- The error of column `j`. -/
def err (j : Nat) : Col F := errsTo H X scale zero (j + 1) j

theorem errsTo_eq : ∀ n j, j < n → errsTo H X scale zero n j = err H X scale zero j
  | 0, _, h => absurd h (by omega)
  | n + 1, j, h => by
    by_cases hj : j = n
    · subst hj; rfl
    · have hb : Nat.beq j n = false := by
        rw [Bool.eq_false_iff]; intro hh; exact hj (Nat.eq_of_beq_eq_true hh)
      show cond (Nat.beq j n) _ (errsTo H X scale zero n j) = _
      rw [hb]; exact errsTo_eq n j (by omega)

/-- Column `j` when its turn comes. -/
def cur (j : Nat) : Col F := part H X (err H X scale zero) (wrap j) j

/-- The recursion: the error of a column is that of its value after the earlier errors. -/
theorem err_eq (j : Nat) :
    err H X scale zero j = errOf scale zero (cur H X scale zero j) (hAt H (wrap j) (wrap j)) := by
  have hb : Nat.beq j j = true := Nat.beq_refl j
  show cond (Nat.beq j j) (errOf scale zero (part H X (errsTo H X scale zero j) (wrap j) j) (hAt H (wrap j) (wrap j))) _ = _
  rw [hb]
  show errOf scale zero (part H X (errsTo H X scale zero j) (wrap j) j) _ = _
  rw [part_congr H X (wrap j) j fun i hi => errsTo_eq H X scale zero j i hi]; rfl

/-- The code of column `j`. -/
def code (j : Nat) : Col F := codeOf scale zero (cur H X scale zero j)

/-- Two codes in one. -/
def pair (p : Nat) : Col F :=
  addf (code H X scale zero (2 * p)) (mulf (code H X scale zero (2 * p + 1)) (bc F 0x41800000#32))

end

/-- The block of errors. -/
def errB (H : Sh128.Idx → Elt F .f32) (w : Sh1024.Idx → Elt F .f32) : Sh1024.Idx → Elt F .f32 := fun i =>
  err H (tiles w) (scaleB w) (zeroB w) (i 1).val
    (ix2 (⟨(i 0).val / 128, by have h : (i 0).val < 1024 := (i 0).isLt; omega⟩ : Fin 8) (⟨(i 0).val % 128, Nat.mod_lt _ (by decide)⟩ : Fin 128))

/-- The block of packed codes. -/
def codeB (H : Sh128.Idx → Elt F .f32) (w : Sh1024.Idx → Elt F .f32) : ShCodes.Idx → Elt F .i8 := fun i =>
  BitVec.truncate 8 (FloatOps.fptosi (F := F) 32
    (pair H (tiles w) (scaleB w) (zeroB w) (i 1).val
      (ix2 (⟨(i 2).val / 128, by have h : (i 2).val < 1024 := (i 2).isLt; omega⟩ : Fin 8) (⟨(i 2).val % 128, Nat.mod_lt _ (by decide)⟩ : Fin 128))))

/-! ## Reading the rectangles -/

theorem ext_val {s : Shape} {i j : s.Idx} (h : ∀ a, (i a).val = (j a).val) : i = j :=
  funext fun a => Fin.ext (h a)

theorem read_rX (X : ShX.Idx → Elt F .f32) (k : Fin 128) :
    shapeCast ShCol (fun x : ShRow.Idx => X ((rX k).emb x)) cast_row = rowOf X k := by
  funext y
  pointwise [rowOf]
  congr 1
  apply ext_val; intro a
  rw [Rect.emb_apply]
  fin_cases a <;> simp [rX]

theorem read_rH (H : Sh128.Idx → Elt F .f32) (j k : Fin 128) (p : 0 < ShOne.numel) :
    H ((rH j k).emb (Shape.Idx.first p)) = hAt H j k := by
  unfold hAt
  congr 1
  apply ext_val; intro a
  have := (Shape.Idx.first p : ShOne.Idx)
  rw [Rect.emb_apply]
  have h0 : ((Shape.Idx.first p : ShOne.Idx) 0).val = 0 := by
    have : ((Shape.Idx.first p : ShOne.Idx) 0).val < 1 := ((Shape.Idx.first p : ShOne.Idx) 0).isLt
    omega
  have h1 : ((Shape.Idx.first p : ShOne.Idx) 1).val = 0 := by
    have : ((Shape.Idx.first p : ShOne.Idx) 1).val < 1 := ((Shape.Idx.first p : ShOne.Idx) 1).isLt
    omega
  fin_cases a
  · show j.val + 1 * ((Shape.Idx.first p : ShOne.Idx) 0).val = j.val
    omega
  · show k.val + 1 * ((Shape.Idx.first p : ShOne.Idx) 1).val = k.val
    omega

/-- One column's tile stored: that column's tile is the new one, every other is the old one. -/
theorem write_rX (X : ShX.Idx → Elt F .f32) (k : Fin 128) (v : Col F) (j : Fin 128) :
    rowOf ((rX k).overlay X (shapeCast ShRow v cast_col)) j = if j = k then v else rowOf X j := by
  funext y
  unfold rowOf
  split_ifs with h
  · subst h
    have e : (ix3 j (y 0) (y 1) : ShX.Idx) = (rX j).emb (ix3 (0 : Fin 1) (y 0) (y 1) : ShRow.Idx) := by
      apply ext_val; intro a
      rw [Rect.emb_apply]
      fin_cases a <;> simp [rX]
    rw [e]
    refine (Rect.overlay_emb (rX j) X _ _).trans ?_
    pointwise
  · rw [Rect.overlay_of_not_mem]
    intro hm
    obtain ⟨i, hi⟩ := (rX k).exists_idx_of_mem hm
    have h0 : (rX k).off 0 + (rX k).stride 0 * (i 0).val = j.val := congrArg (fun z : ShX.Idx => (z 0).val) hi
    have h1 : (i 0).val < 1 := (i 0).isLt
    have h2 : k.val + 1 * (i 0).val = j.val := h0
    exact h (Fin.ext (by omega))

/-- One pair's tile stored. -/
theorem write_rC (X : ShC.Idx → Elt F .f32) (k : Fin 64) (v : Col F) (j : Fin 64) :
    rowC ((rC k).overlay X (shapeCast ShRow v cast_col)) j = if j = k then v else rowC X j := by
  funext y
  unfold rowC
  split_ifs with h
  · subst h
    have e : (ix3 j (y 0) (y 1) : ShC.Idx) = (rC j).emb (ix3 (0 : Fin 1) (y 0) (y 1) : ShRow.Idx) := by
      apply ext_val; intro a
      rw [Rect.emb_apply]
      fin_cases a <;> simp [rC]
    rw [e]
    refine (Rect.overlay_emb (rC j) X _ _).trans ?_
    pointwise
  · rw [Rect.overlay_of_not_mem]
    intro hm
    obtain ⟨i, hi⟩ := (rC k).exists_idx_of_mem hm
    have h0 : (rC k).off 0 + (rC k).stride 0 * (i 0).val = j.val := congrArg (fun z : ShC.Idx => (z 0).val) hi
    have h1 : (i 0).val < 1 := (i 0).isLt
    have h2 : k.val + 1 * (i 0).val = j.val := h0
    exact h (Fin.ext (by omega))

/-- A whole tile stored. -/
theorem write_rT (X v : ShCol.Idx → Elt F .f32) : rT.overlay X v = v := by
  funext y
  have e : y = rT.emb (y : ShCol.Idx) := by
    apply ext_val; intro a
    rw [Rect.emb_apply]
    fin_cases a <;> simp [rT]
  conv_lhs => rw [e]
  exact Rect.overlay_emb rT X v y

/-- One group of rows of the weights put into the tiles: they agree with `tiles` on one more group. -/
theorem write_fill (w : Sh1024.Idx → Elt F .f32) (X : ShX.Idx → Elt F .f32) (g : Fin 8)
    (h : ∀ i : ShX.Idx, (i 1).val < g.val → X i = tiles w i) (i : ShX.Idx) (hi : (i 1).val < g.val + 1) :
    (rXG g).overlay X (shapeCast ShXG (transpose Sh128 [1, 0]
      (shapeCast Sh128 (fun x : Sh128.Idx => w ((rW g).emb x)) cast_sq) tr_sq) cast_sqx) i = tiles w i := by
  by_cases hg : (i 1).val = g.val
  · have e : i = (rXG g).emb (ix3 (i 0) (0 : Fin 1) (i 2) : ShXG.Idx) := by
      apply ext_val; intro a
      rw [Rect.emb_apply]
      fin_cases a <;> simp [rXG, hg]
    conv_lhs => rw [e]
    refine (Rect.overlay_emb (rXG g) X _ _).trans ?_
    pointwise [tiles]
    congr 1
    apply ext_val; intro a
    rw [Rect.emb_apply]
    fin_cases a <;> simp [rW, hg]
  · rw [Rect.overlay_of_not_mem]
    · exact h i (by omega)
    · intro hm
      obtain ⟨j, hj⟩ := (rXG g).exists_idx_of_mem hm
      have h0 : g.val + 1 * (j 1).val = (i 1).val := congrArg (fun z : ShX.Idx => (z 1).val) hj
      have h1 : (j 1).val < 1 := (j 1).isLt
      omega

/-- One group of rows of the errors written out. -/
theorem write_err (R : Sh1024.Idx → Elt F .f32) (E : ShX.Idx → Elt F .f32) (O : Sh1024.Idx → Elt F .f32) (g : Fin 8)
    (hR : ∀ (k : Fin 128) (s : Fin 8) (l : Fin 128) (hb : 128 * s.val + l.val < 1024),
      R (ix2 (⟨128 * s.val + l.val, hb⟩ : Fin 1024) k) = E (ix3 k s l))
    (h : ∀ i : Sh1024.Idx, (i 0).val < 128 * g.val → O i = R i) (i : Sh1024.Idx) (hi : (i 0).val < 128 * (g.val + 1)) :
    (rW g).overlay O (transpose Sh128 [1, 0] (shapeCast Sh128 (fun x : ShXG.Idx => E ((rXG g).emb x)) cast_xg) tr_sq) i
      = R i := by
  by_cases hg : 128 * g.val ≤ (i 0).val
  · have hb : (i 0).val - 128 * g.val < 128 := by omega
    have e : i = (rW g).emb (ix2 (⟨(i 0).val - 128 * g.val, hb⟩ : Fin 128) (i 1) : Sh128.Idx) := by
      apply ext_val; intro a
      rw [Rect.emb_apply]
      fin_cases a <;> simp [rW]
      omega
    conv_lhs => rw [e]
    refine (Rect.overlay_emb (rW g) O _ _).trans ?_
    have e2 : i = ix2 (⟨128 * g.val + ((i 0).val - 128 * g.val), by omega⟩ : Fin 1024) (i 1) := by
      apply ext_val; intro a
      fin_cases a <;> simp
      omega
    conv_rhs => rw [e2]
    refine Eq.trans ?_ (hR (i 1) g ⟨(i 0).val - 128 * g.val, hb⟩ (by dsimp only; omega)).symm
    pointwise
    congr 1
    apply ext_val; intro a
    rw [Rect.emb_apply]
    fin_cases a <;> simp [rXG]
  · rw [Rect.overlay_of_not_mem]
    · exact h i (by omega)
    · intro hm
      obtain ⟨j, hj⟩ := (rW g).exists_idx_of_mem hm
      have h0 : 128 * g.val + 1 * (j 0).val = (i 0).val := congrArg (fun z : Sh1024.Idx => (z 0).val) hj
      omega

/-- One group of columns of the packed codes written out. -/
theorem write_code (R : ShCodes.Idx → Elt F .i8) (C : ShC.Idx → Elt F .f32) (O : ShCodes.Idx → Elt F .i8) (g : Fin 8)
    (hR : ∀ (p : Fin 64) (s : Fin 8) (l : Fin 128) (hb : 128 * s.val + l.val < 1024),
      R (ix3 (0 : Fin 1) p (⟨128 * s.val + l.val, hb⟩ : Fin 1024))
        = BitVec.truncate 8 (FloatOps.fptosi (F := F) 32 (C (ix3 p s l))))
    (h : ∀ i : ShCodes.Idx, (i 2).val < 128 * g.val → O i = R i) (i : ShCodes.Idx) (hi : (i 2).val < 128 * (g.val + 1)) :
    (rK g).overlay O (shapeCast ShCodesG (trunci 8 (fptosi 32 (shapeCast ShCG2 (fun x : ShCG.Idx => C ((rCG g).emb x)) cast_cg))
      (by decide)) cast_kg) i = R i := by
  by_cases hg : 128 * g.val ≤ (i 2).val
  · have hb : (i 2).val - 128 * g.val < 128 := by omega
    have h0 : (i 0).val < 1 := (i 0).isLt
    have e : i = (rK g).emb (ix3 (0 : Fin 1) (i 1) (⟨(i 2).val - 128 * g.val, hb⟩ : Fin 128) : ShCodesG.Idx) := by
      apply ext_val; intro a
      rw [Rect.emb_apply]
      fin_cases a <;> simp [rK]
      · omega
      · omega
    conv_lhs => rw [e]
    refine (Rect.overlay_emb (rK g) O _ _).trans ?_
    have e2 : i = ix3 (0 : Fin 1) (i 1) (⟨128 * g.val + ((i 2).val - 128 * g.val), by omega⟩ : Fin 1024) := by
      apply ext_val; intro a
      fin_cases a <;> simp
      · omega
      · omega
    conv_rhs => rw [e2]
    refine Eq.trans ?_ (hR (i 1) g ⟨(i 2).val - 128 * g.val, hb⟩ (by dsimp only; omega)).symm
    pointwise
    congr 3
    apply ext_val; intro a
    rw [Rect.emb_apply]
    fin_cases a <;> simp [rCG]
  · rw [Rect.overlay_of_not_mem]
    · exact h i (by omega)
    · intro hm
      obtain ⟨j, hj⟩ := (rK g).exists_idx_of_mem hm
      have h0 : 128 * g.val + 1 * (j 2).val = (i 2).val := congrArg (fun z : ShCodes.Idx => (z 2).val) hj
      omega

end Cert.Gptq.Loop
-- ==== Proof.GptqRun.lean ====
/- The run of the loop program from owned buffers: the four output buffers end at the blocks
   `errB`, `codeB`, `scaleB`, `zeroB`, the two inputs unchanged, the scratch buffers at some contents. -/
module

public import proofs.«01_k».proof.Proof.GptqRules
public import proofs.«01_k».proof.Proof.GptqSpec

@[expose] public section

noncomputable section

namespace Cert.Gptq.Loop

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] {nD : Nat} {τ : Topo} {sig : RefSig} {Λ : Labels}

local notation "𝕄" => MT nD τ sig Unit (Elt F) ℕ (UR sig nD τ) ℕ

variable (defs : Defs nD τ sig (Elt F) Λ) (c : Dev nD) (E : Set ℕ)

theorem put_eq {α : Type} (h : Fin 8 → α) (m : Nat) (v : α) (i : Fin 8) : put h m v i = if i.val = m then v else h i := by
  unfold put
  by_cases hi : i.val = m
  · rw [if_pos hi, hi, Nat.beq_refl]; rfl
  · have hb : Nat.beq i.val m = false := by
      rw [Bool.eq_false_iff]; intro hh; exact hi (Nat.eq_of_beq_eq_true hh)
    rw [if_neg hi, hb]; rfl

theorem W_loadX (m : Memref sig .tc .vmem ShX .f32) (k : Fin 128) (X : ShX.Idx → Elt F .f32) (Q : Col F → sProp 𝕄) :
    owns (c : Thread nD τ) m fullShare X
      ⊢ iprop((owns (c : Thread nD τ) m fullShare X -∗ Q (rowOf X k)) -∗ W defs c E (loadX m k) Q) := by
  unfold loadX
  rw [W, wp_bind]
  iintro H Hk
  iapply (W_load defs c E m (rX k) (View.loadsAt_vmem pos_row) X _) $$ H
  iintro H
  iapply (W_pure defs c E _ Q)
  erw [read_rX X k]
  iapply Hk
  iexact H

/-- The entries of one row of the matrix, from `lo` on. -/
theorem W_rowLoads (arg1 : Memref sig .tc .smem Sh128 .f32) (b : Fin 16) (j : Fin 128) (lo : Fin 9)
    (H : Sh128.Idx → Elt F .f32) (Q : (Fin 8 → F .f32) → sProp 𝕄) :
    owns (c : Thread nD τ) arg1 fullShare H
      ⊢ iprop((∀ h, iprop(⌜∀ m : Fin 8, lo.val ≤ m.val → h m = hAt H j (colIx b m)⌝ ∗ owns (c : Thread nD τ) arg1 fullShare H) -∗ Q h)
        -∗ W defs c E (rowLoads arg1 b j lo) Q) := by
  unfold rowLoads
  iintro H Hk
  have hlo : lo.val ≤ 8 := by omega
  iapply (W_forN defs c E (8 - lo.val) _ (fun n h => iprop(⌜∀ m : Fin 8, lo.val ≤ m.val → m.val < lo.val + n → h m = hAt H j (colIx b m)⌝
    ∗ owns (c : Thread nD τ) arg1 fullShare H)) ?step _ Q) $$ [H]
  case step =>
    intro n h Q
    rw [W, wp_bind]
    iintro ⟨%hh, H⟩ Hk
    have hn := n.isLt
    iapply (W_smem defs c E arg1 _ one_one rfl H _) $$ H
    iintro H
    iapply (W_pure defs c E _ Q)
    iapply Hk
    isplitr
    · ipureintro
      intro m hm hm'
      rw [put_eq]
      split_ifs with he
      · refine (read_rH H _ _ _).trans ?_
        congr 1
        apply Fin.ext
        show 8 * b.val + (8 - (8 - lo.val) + n.val) = 8 * b.val + m.val
        omega
      · exact hh m hm (by omega)
    · iexact H
  · isplitr
    · ipureintro; intro m hm hm'; omega
    · iexact H
  · iintro %h ⟨%hh, H⟩
    iapply Hk
    isplitr
    · ipureintro; intro m hm; exact hh m hm (by omega)
    · iexact H

/-- The block's eight columns. -/
theorem W_initLoads (arg7 : Memref sig .tc .vmem ShX .f32) (b : Fin 16) (X : ShX.Idx → Elt F .f32)
    (Q : (Fin 8 → Col F) → sProp 𝕄) :
    owns (c : Thread nD τ) arg7 fullShare X
      ⊢ iprop((∀ a, iprop(⌜∀ m : Fin 8, a m = rowOf X (colIx b m)⌝ ∗ owns (c : Thread nD τ) arg7 fullShare X) -∗ Q a)
        -∗ W defs c E (initLoads arg7 b) Q) := by
  unfold initLoads
  iintro H Hk
  iapply (W_forN defs c E 8 _ (fun n a => iprop(⌜∀ m : Fin 8, m.val < n → a m = rowOf X (colIx b m)⌝
    ∗ owns (c : Thread nD τ) arg7 fullShare X)) ?step _ Q) $$ [H]
  case step =>
    intro n a Q
    rw [W, wp_bind]
    iintro ⟨%hh, H⟩ Hk
    iapply (W_loadX defs c E arg7 _ X _) $$ H
    iintro H
    iapply (W_pure defs c E _ Q)
    iapply Hk
    isplitr
    · ipureintro
      intro m hm
      rw [put_eq]
      split_ifs with he
      · rw [Fin.ext he]
      · exact hh m (by omega)
    · iexact H
  · isplitr
    · ipureintro; intro m hm; omega
    · iexact H
  · iintro %a ⟨%hh, H⟩
    iapply Hk
    isplitr
    · ipureintro; intro m; exact hh m m.isLt
    · iexact H

section
variable (H : Sh128.Idx → Elt F .f32) (X : ShX.Idx → Elt F .f32) (scale zero : Col F)

/-- The errors of the first `n` columns are in place. -/
def ErrsIn (n : Nat) (Y : ShX.Idx → Elt F .f32) : Prop :=
  ∀ k : Fin 128, k.val < n → rowOf Y k = err H X scale zero k.val

/-- The first `n` pairs of codes are in place. -/
def PairsIn (n : Nat) (Y : ShC.Idx → Elt F .f32) : Prop :=
  ∀ p : Fin 64, p.val < n → rowC Y p = pair H X scale zero p.val

/-- The block's accumulators from `lo` on, after `n` columns. -/
def AccIs (b : Fin 16) (n lo : Nat) (a : Fin 8 → Col F) : Prop :=
  ∀ m : Fin 8, lo ≤ m.val → a m = part H X (err H X scale zero) (colIx b m) n

theorem AccIs.step {b : Fin 16} {n lo lo' : Nat} {a : Fin 8 → Col F} (ha : AccIs H X scale zero b n lo a)
    (hlo : lo ≤ lo') (h : Fin 8 → F .f32) (hn : n < 128)
    (hh : ∀ m : Fin 8, lo' ≤ m.val → h m = hAt H ⟨n, hn⟩ (colIx b m)) :
    AccIs H X scale zero b (n + 1) lo' (accStep a (err H X scale zero n) h) := by
  intro m hm
  show subf (a m) (mulf _ (broadcast ShCol (h m))) = _
  rw [part, ha m (by omega), hh m hm, wrap_lt hn]

/-- The earlier columns' errors taken off the block. -/
theorem W_back (arg1 : Memref sig .tc .smem Sh128 .f32) (arg8 : Memref sig .tc .vmem ShX .f32) (b : Fin 16)
    (Y : ShX.Idx → Elt F .f32) (hY : ErrsIn H X scale zero (8 * b.val) Y) (a : Fin 8 → Col F)
    (ha : AccIs H X scale zero b 0 0 a) (Q : (Fin 8 → Col F) → sProp 𝕄) :
    iprop(owns (c : Thread nD τ) arg1 fullShare H ∗ owns (c : Thread nD τ) arg8 fullShare Y)
      ⊢ iprop((∀ a, iprop(⌜AccIs H X scale zero b (8 * b.val) 0 a⌝ ∗ owns (c : Thread nD τ) arg1 fullShare H
          ∗ owns (c : Thread nD τ) arg8 fullShare Y) -∗ Q a)
        -∗ W defs c E (forN (8 * b.val) (backStep arg1 arg8 b) a) Q) := by
  iintro ⟨H1, H8⟩ Hk
  iapply (W_forN defs c E (8 * b.val) _ (fun n a => iprop(⌜AccIs H X scale zero b n 0 a⌝
    ∗ owns (c : Thread nD τ) arg1 fullShare H ∗ owns (c : Thread nD τ) arg8 fullShare Y)) ?step _ Q) $$ [H1 H8]
  case step =>
    intro n a Q
    unfold backStep
    rw [W, wp_bind]
    iintro ⟨%hh, H1, H8⟩ Hk
    have hn := n.isLt
    have hn8 : n.val < 128 := by omega
    iapply (W_loadX defs c E arg8 _ Y _) $$ H8
    iintro H8
    rw [wp_bind, hY ⟨n.val, hn8⟩ n.isLt]
    iapply (W_rowLoads defs c E arg1 b _ 0 H _) $$ H1
    iintro %h ⟨%hr, H1⟩
    iapply (W_pure defs c E _ Q)
    iapply Hk
    isplitr
    · ipureintro
      exact hh.step H X scale zero (Nat.le_refl 0) h hn8 fun m hm => hr m (Nat.zero_le _)
    isplitl [H1]
    · iexact H1
    · iexact H8
  · isplitr
    · ipureintro; exact ha
    isplitl [H1]
    · iexact H1
    · iexact H8
  · iexact Hk

/-- The code held between an even column and the next. -/
def PrevIs (n : Nat) (q : Col F) : Prop := n % 2 = 1 → q = code H X scale zero (n - 1)

/-- One column of the block. -/
theorem W_colStep (arg1 : Memref sig .tc .smem Sh128 .f32) (arg8 : Memref sig .tc .vmem ShX .f32)
    (arg9 : Memref sig .tc .vmem ShC .f32) (b : Fin 16) (i : Fin 8)
    (s : (Fin 8 → Col F) × Col F) (Q : (Fin 8 → Col F) × Col F → sProp 𝕄)
    (ha : AccIs H X scale zero b (8 * b.val + i.val) i.val s.1) (hp : PrevIs H X scale zero (8 * b.val + i.val) s.2)
    (Y : ShX.Idx → Elt F .f32) (hY : ErrsIn H X scale zero (8 * b.val + i.val) Y)
    (Z : ShC.Idx → Elt F .f32) (hZ : PairsIn H X scale zero ((8 * b.val + i.val) / 2) Z) :
    iprop(owns (c : Thread nD τ) arg1 fullShare H ∗ owns (c : Thread nD τ) arg8 fullShare Y ∗ owns (c : Thread nD τ) arg9 fullShare Z)
      ⊢ iprop((∀ s', iprop(⌜AccIs H X scale zero b (8 * b.val + i.val + 1) (i.val + 1) s'.1
            ∧ PrevIs H X scale zero (8 * b.val + i.val + 1) s'.2⌝
          ∗ owns (c : Thread nD τ) arg1 fullShare H
          ∗ (∃ Y, iprop(⌜ErrsIn H X scale zero (8 * b.val + i.val + 1) Y⌝ ∗ owns (c : Thread nD τ) arg8 fullShare Y))
          ∗ (∃ Z, iprop(⌜PairsIn H X scale zero ((8 * b.val + i.val + 1) / 2) Z⌝ ∗ owns (c : Thread nD τ) arg9 fullShare Z))) -∗ Q s')
        -∗ W defs c E (colStep arg1 arg8 arg9 scale zero b i s) Q) := by
  have hlt : 8 * b.val + i.val < 128 := by omega
  have hcur : s.1 i = cur H X scale zero (8 * b.val + i.val) := by
    rw [ha i (Nat.le_refl _), cur, wrap_lt hlt]; rfl
  have hcode : codeOf scale zero (s.1 i) = code H X scale zero (8 * b.val + i.val) := by rw [hcur]; rfl
  have herr : errOf scale zero (s.1 i) (hAt H (colIx b i) (colIx b i)) = err H X scale zero (8 * b.val + i.val) := by
    rw [hcur, err_eq, wrap_lt hlt]; rfl
  unfold colStep
  rw [W, wp_bind]
  iintro ⟨H1, H8, H9⟩ Hk
  iapply (W_smem defs c E arg1 _ one_one rfl H _) $$ H1
  iintro H1
  erw [read_rH H _ _ _]
  rw [wp_bind]
  iapply (W_load defs c E arg8 _ _ Y _) $$ H8
  iintro H8
  rw [wp_bind, herr, hcode]
  iapply (W_store defs c E arg8 _ _ _ _ Y _) $$ H8
  iintro H8
  have hY' : ErrsIn H X scale zero (8 * b.val + i.val + 1)
      ((rX (colIx b i)).overlay Y (shapeCast ShRow (err H X scale zero (8 * b.val + i.val)) cast_col)) := by
    intro k hk
    rw [write_rX]
    split_ifs with he
    · rw [he]; rfl
    · refine hY k ?_
      have : k.val ≠ 8 * b.val + i.val := fun e => he (Fin.ext e)
      omega
  rw [wp_bind]
  iapply (W_rowLoads defs c E arg1 b (colIx b i) i.succ H _) $$ H1
  iintro %h ⟨%hr, H1⟩
  have hA : AccIs H X scale zero b (8 * b.val + i.val + 1) (i.val + 1)
      (accStep s.1 (err H X scale zero (8 * b.val + i.val)) h) :=
    ha.step H X scale zero (Nat.le_succ _) h hlt fun m hm => hr m hm
  rw [wp_bind]
  by_cases hpar : i.val % 2 = 1
  · have hb : Nat.beq (i.val % 2) 1 = true := by rw [hpar]; rfl
    have hprev : s.2 = code H X scale zero (8 * b.val + i.val - 1) := hp (by omega)
    rw [hb, cond_true, wp_bind]
    iapply (W_load defs c E arg9 _ _ Z _) $$ H9
    iintro H9
    iapply (W_store defs c E arg9 _ _ _ _ Z _) $$ H9
    iintro H9
    iapply (W_pure defs c E _ Q)
    iapply Hk
    isplitr
    · ipureintro
      exact ⟨hA, fun hodd => absurd hodd (by omega)⟩
    isplitl [H1]
    · iexact H1
    isplitl [H8]
    · iexists _
      isplitr
      swap
      · iexact H8
      ipureintro; exact hY'
    · iexists _
      isplitr
      swap
      · iexact H9
      ipureintro
      intro p hp'
      rw [write_rC]
      split_ifs with he
      · have e1 : 2 * p.val = 8 * b.val + i.val - 1 := by
          rw [he]; show 2 * ((8 * b.val + i.val) / 2) = _; omega
        have e2 : 2 * p.val + 1 = 8 * b.val + i.val := by omega
        rw [pair, e2, e1, hprev]
      · refine hZ p ?_
        have : p.val ≠ (8 * b.val + i.val) / 2 := fun e => he (Fin.ext e)
        omega
  · have hb : Nat.beq (i.val % 2) 1 = false := by
      rw [show i.val % 2 = 0 by omega]; rfl
    rw [hb, cond_false]
    iapply (W_pure defs c E _ _)
    iapply (W_pure defs c E _ Q)
    iapply Hk
    isplitr
    · ipureintro
      exact ⟨hA, fun _ => rfl⟩
    isplitl [H1]
    · iexact H1
    isplitl [H8]
    · iexists _
      isplitr
      swap
      · iexact H8
      ipureintro; exact hY'
    · iexists _
      isplitr
      swap
      · iexact H9
      ipureintro
      rw [show (8 * b.val + i.val + 1) / 2 = (8 * b.val + i.val) / 2 by omega]
      exact hZ

/-- The state between two columns of the block. -/
def mid (arg1 : Memref sig .tc .smem Sh128 .f32) (arg8 : Memref sig .tc .vmem ShX .f32)
    (arg9 : Memref sig .tc .vmem ShC .f32) (n : Nat) : sProp 𝕄 :=
  iprop(owns (c : Thread nD τ) arg1 fullShare H
    ∗ (∃ Y, iprop(⌜ErrsIn H X scale zero n Y⌝ ∗ owns (c : Thread nD τ) arg8 fullShare Y))
    ∗ (∃ Z, iprop(⌜PairsIn H X scale zero (n / 2) Z⌝ ∗ owns (c : Thread nD τ) arg9 fullShare Z)))

/-- One block of eight columns. -/
theorem W_blockStep (arg1 : Memref sig .tc .smem Sh128 .f32) (arg7 arg8 : Memref sig .tc .vmem ShX .f32)
    (arg9 : Memref sig .tc .vmem ShC .f32) (b : Fin 16) (u : PUnit.{1}) (Q : PUnit.{1} → sProp 𝕄) :
    iprop(owns (c : Thread nD τ) arg7 fullShare X ∗ mid c H X scale zero arg1 arg8 arg9 (8 * b.val))
      ⊢ iprop((∀ u, iprop(owns (c : Thread nD τ) arg7 fullShare X ∗ mid c H X scale zero arg1 arg8 arg9 (8 * (b.val + 1))) -∗ Q u)
        -∗ W defs c E (blockStep arg1 arg7 arg8 arg9 scale zero b u) Q) := by
  unfold blockStep mid
  rw [W, wp_bind]
  iintro ⟨H7, H1, ⟨%Y, %hY, H8⟩, ⟨%Z, %hZ, H9⟩⟩ Hk
  iapply (W_initLoads defs c E arg7 b X _) $$ H7
  iintro %a ⟨%ha, H7⟩
  rw [wp_bind]
  iapply (W_back defs c E H X scale zero arg1 arg8 b Y hY a (fun m _ => ha m) _) $$ [H1 H8]
  · isplitl [H1]
    · iexact H1
    · iexact H8
  iintro %a ⟨%ha, H1, H8⟩
  rw [wp_bind]
  iapply (W_forN defs c E 8 _ (fun i s => iprop(⌜AccIs H X scale zero b (8 * b.val + i) i s.1
            ∧ PrevIs H X scale zero (8 * b.val + i) s.2⌝
      ∗ mid c H X scale zero arg1 arg8 arg9 (8 * b.val + i))) ?step _ _) $$ [H1 H8 H9]
  case step =>
    intro i s Q
    unfold mid
    iintro ⟨%hh, H1, ⟨%Y, %hY, H8⟩, ⟨%Z, %hZ, H9⟩⟩ Hk
    iapply (W_colStep defs c E H X scale zero arg1 arg8 arg9 b i s Q hh.1 hh.2 Y hY Z hZ) $$ [H1 H8 H9]
    · isplitl [H1]
      · iexact H1
      isplitl [H8]
      · iexact H8
      · iexact H9
    · iexact Hk
  · unfold mid
    isplitr
    · ipureintro; exact ⟨ha, fun hodd => absurd hodd (by omega)⟩
    isplitl [H1]
    · iexact H1
    isplitl [H8]
    · iexists _
      isplitr
      swap
      · iexact H8
      ipureintro; exact hY
    · iexists _
      isplitr
      swap
      · iexact H9
      ipureintro; exact hZ
  · iintro %s ⟨%hh, Hm⟩
    iapply (W_pure defs c E _ Q)
    iapply Hk
    isplitl [H7]
    · iexact H7
    unfold mid
    rw [show 8 * (b.val + 1) = 8 * b.val + 8 by omega]
    iexact Hm

end

/-- The whole body, from owned buffers. -/
theorem W_body (arg1 : Memref sig .tc .smem Sh128 .f32) (arg2 arg3 : Memref sig .tc .vmem Sh1024 .f32)
    (arg4 : Memref sig .tc .vmem ShCodes .i8) (arg5 arg6 : Memref sig .tc .vmem ShCol .f32)
    (arg7 arg8 : Memref sig .tc .vmem ShX .f32) (arg9 : Memref sig .tc .vmem ShC .f32)
    (h4 : ∀ g : Fin 8, (arg4.access (rK g)).Stores Finset.univ)
    (H : Sh128.Idx → Elt F .f32) (w : Sh1024.Idx → Elt F .f32) (Q : PUnit.{1} → sProp 𝕄) :
    iprop(owns (c : Thread nD τ) arg1 fullShare H ∗ owns (c : Thread nD τ) arg2 fullShare w
        ∗ (∃ d, owns (c : Thread nD τ) arg3 fullShare d) ∗ (∃ d, owns (c : Thread nD τ) arg4 fullShare d)
        ∗ (∃ d, owns (c : Thread nD τ) arg5 fullShare d) ∗ (∃ d, owns (c : Thread nD τ) arg6 fullShare d)
        ∗ (∃ d, owns (c : Thread nD τ) arg7 fullShare d) ∗ (∃ d, owns (c : Thread nD τ) arg8 fullShare d)
        ∗ (∃ d, owns (c : Thread nD τ) arg9 fullShare d))
      ⊢ iprop((iprop(owns (c : Thread nD τ) arg1 fullShare H ∗ owns (c : Thread nD τ) arg2 fullShare w
        ∗ owns (c : Thread nD τ) arg3 fullShare (errB H w) ∗ owns (c : Thread nD τ) arg4 fullShare (codeB H w)
        ∗ owns (c : Thread nD τ) arg5 fullShare (scaleB w) ∗ owns (c : Thread nD τ) arg6 fullShare (zeroB w)
        ∗ (∃ d, owns (c : Thread nD τ) arg7 fullShare d) ∗ (∃ d, owns (c : Thread nD τ) arg8 fullShare d)
        ∗ (∃ d, owns (c : Thread nD τ) arg9 fullShare d)) -∗ Q ⟨⟩)
        -∗ W defs c E (body arg1 arg2 arg3 arg4 arg5 arg6 arg7 arg8 arg9 h4) Q) := by
  unfold body
  rw [W, wp_bind]
  iintro ⟨H1, H2, ⟨%d3, H3⟩, ⟨%d4, H4⟩, ⟨%d5, H5⟩, ⟨%d6, H6⟩, ⟨%d7, H7⟩, ⟨%d8, H8⟩, ⟨%d9, H9⟩⟩ Hk
  -- the tiles
  iapply (W_forN defs c E 8 _ (fun g _ => iprop(owns (c : Thread nD τ) arg2 fullShare w
    ∗ (∃ Y, iprop(⌜∀ i : ShX.Idx, (i 1).val < g → Y i = tiles w i⌝ ∗ owns (c : Thread nD τ) arg7 fullShare Y)))) ?fill _ _) $$ [H2 H7]
  case fill =>
    intro g u Q
    unfold fillStep
    rw [W, wp_bind]
    iintro ⟨H2, ⟨%Y, %hY, H7⟩⟩ Hk
    iapply (W_load defs c E arg2 _ _ w _) $$ H2
    iintro H2
    rw [wp_bind]
    iapply (W_load defs c E arg7 _ _ Y _) $$ H7
    iintro H7
    iapply (W_store defs c E arg7 _ _ _ _ Y _) $$ H7
    iintro H7
    iapply Hk
    isplitl [H2]
    · iexact H2
    iexists _
    isplitr
    swap
    · iexact H7
    ipureintro
    intro i hi
    exact write_fill w Y g hY i hi
  · isplitl [H2]
    · iexact H2
    iexists _
    isplitr
    swap
    · iexact H7
    ipureintro
    intro i hi; omega
  iintro %u ⟨H2, ⟨%Y, %hY, H7⟩⟩
  have hYt : Y = tiles w := funext fun i => hY i (i 1).isLt
  subst hYt
  -- the extrema
  rw [wp_bind]
  iapply (W_forN defs c E 128 _ (fun n s => iprop(⌜s = extrema (tiles w) n⌝ ∗ owns (c : Thread nD τ) arg7 fullShare (tiles w))) ?mm _ _) $$ [H7]
  case mm =>
    intro n s Q
    unfold minmaxStep
    rw [W, wp_bind]
    iintro ⟨%hs, H7⟩ Hk
    iapply (W_loadX defs c E arg7 _ (tiles w) _) $$ H7
    iintro H7
    iapply (W_pure defs c E _ Q)
    iapply Hk
    isplitr
    · ipureintro
      rw [extrema, wrap_val, hs]
    · iexact H7
  · isplitr
    · ipureintro; rfl
    · iexact H7
  iintro %s ⟨%hs, H7⟩
  have hsc : scaleOf s.1 s.2 = scaleB w := by rw [hs]; rfl
  have hze : zeroOf s.1 (scaleB w) = zeroB w := by rw [hs]; rfl
  rw [hsc, hze]
  -- the step and the zero point
  rw [wp_bind]
  iapply (W_load defs c E arg5 _ _ d5 _) $$ H5
  iintro H5
  rw [wp_bind]
  iapply (W_store defs c E arg5 rT _ _ _ d5 _) $$ H5
  iintro H5
  rw [wp_bind]
  iapply (W_load defs c E arg6 _ _ d6 _) $$ H6
  iintro H6
  rw [wp_bind]
  iapply (W_store defs c E arg6 rT _ _ _ d6 _) $$ H6
  iintro H6
  rw [write_rT, write_rT]
  -- the columns
  rw [wp_bind]
  iapply (W_forN defs c E 16 _ (fun b _ => iprop(owns (c : Thread nD τ) arg7 fullShare (tiles w)
    ∗ mid c H (tiles w) (scaleB w) (zeroB w) arg1 arg8 arg9 (8 * b))) ?blocks _ _) $$ [H1 H7 H8 H9]
  case blocks =>
    intro b u Q
    exact W_blockStep defs c E H (tiles w) (scaleB w) (zeroB w) arg1 arg7 arg8 arg9 b u Q
  · isplitl [H7]
    · iexact H7
    unfold mid
    isplitl [H1]
    · iexact H1
    isplitl [H8]
    · iexists _
      isplitr
      swap
      · iexact H8
      ipureintro; intro k hk; omega
    · iexists _
      isplitr
      swap
      · iexact H9
      ipureintro; intro k hk; omega
  unfold mid
  iintro %u ⟨H7, H1, ⟨%Y, %hY, H8⟩, ⟨%Z, %hZ, H9⟩⟩
  have hE : ∀ (k : Fin 128) (s : Fin 8) (l : Fin 128) (hb : 128 * s.val + l.val < 1024),
      errB H w (ix2 (⟨128 * s.val + l.val, hb⟩ : Fin 1024) k) = Y (ix3 k s l) := by
    intro k s l hb
    have e := congrFun (hY k k.isLt) (ix2 s l)
    refine Eq.trans ?_ e.symm
    show err H (tiles w) (scaleB w) (zeroB w) k.val _ = _
    congr 1
    apply ext_val; intro a
    fin_cases a
    · show (128 * s.val + l.val) / 128 = s.val; omega
    · show (128 * s.val + l.val) % 128 = l.val; omega
  have hC : ∀ (p : Fin 64) (s : Fin 8) (l : Fin 128) (hb : 128 * s.val + l.val < 1024),
      codeB H w (ix3 (0 : Fin 1) p (⟨128 * s.val + l.val, hb⟩ : Fin 1024))
        = BitVec.truncate 8 (FloatOps.fptosi (F := F) 32 (Z (ix3 p s l))) := by
    intro p s l hb
    have e := congrFun (hZ p p.isLt) (ix2 s l)
    refine Eq.trans ?_ (congrArg (fun z => BitVec.truncate 8 (FloatOps.fptosi (F := F) 32 z)) e.symm)
    show BitVec.truncate 8 (FloatOps.fptosi (F := F) 32 (pair H (tiles w) (scaleB w) (zeroB w) p.val _)) = _
    congr 3
    apply ext_val; intro a
    fin_cases a
    · show (128 * s.val + l.val) / 128 = s.val; omega
    · show (128 * s.val + l.val) % 128 = l.val; omega
  -- the outputs
  iapply (W_forN defs c E 8 _ (fun g _ => iprop(owns (c : Thread nD τ) arg8 fullShare Y ∗ owns (c : Thread nD τ) arg9 fullShare Z
    ∗ (∃ O, iprop(⌜∀ i : Sh1024.Idx, (i 0).val < 128 * g → O i = errB H w i⌝ ∗ owns (c : Thread nD τ) arg3 fullShare O))
    ∗ (∃ O, iprop(⌜∀ i : ShCodes.Idx, (i 2).val < 128 * g → O i = codeB H w i⌝ ∗ owns (c : Thread nD τ) arg4 fullShare O)))) ?out _ _)
    $$ [H8 H9 H3 H4]
  case out =>
    intro g u Q
    unfold outStep
    rw [W, wp_bind]
    iintro ⟨H8, H9, ⟨%O, %hO, H3⟩, ⟨%K, %hK, H4⟩⟩ Hk
    iapply (W_load defs c E arg8 _ _ Y _) $$ H8
    iintro H8
    rw [wp_bind]
    iapply (W_load defs c E arg3 _ _ O _) $$ H3
    iintro H3
    rw [wp_bind]
    iapply (W_store defs c E arg3 _ _ _ _ O _) $$ H3
    iintro H3
    rw [wp_bind]
    iapply (W_load defs c E arg9 _ _ Z _) $$ H9
    iintro H9
    rw [wp_bind]
    iapply (W_load defs c E arg4 _ _ K _) $$ H4
    iintro H4
    iapply (W_store defs c E arg4 _ _ _ _ K _) $$ H4
    iintro H4
    iapply Hk
    isplitl [H8]
    · iexact H8
    isplitl [H9]
    · iexact H9
    isplitl [H3]
    · iexists _
      isplitr
      swap
      · iexact H3
      ipureintro
      intro i hi
      exact write_err (errB H w) Y O g hE hO i hi
    · iexists _
      isplitr
      swap
      · iexact H4
      ipureintro
      intro i hi
      exact write_code (codeB H w) Z K g hC hK i hi
  · isplitl [H8]
    · iexact H8
    isplitl [H9]
    · iexact H9
    isplitl [H3]
    · iexists _
      isplitr
      swap
      · iexact H3
      ipureintro
      intro i hi; omega
    · iexists _
      isplitr
      swap
      · iexact H4
      ipureintro
      intro i hi; omega
  iintro %u ⟨H8, H9, ⟨%O, %hO, H3⟩, ⟨%K, %hK, H4⟩⟩
  have hO' : O = errB H w := funext fun i => hO i (i 0).isLt
  have hK' : K = codeB H w := funext fun i => hK i (i 2).isLt
  subst hO' hK'
  iapply Hk
  isplitl [H1]
  · iexact H1
  isplitl [H2]
  · iexact H2
  isplitl [H3]
  · iexact H3
  isplitl [H4]
  · iexact H4
  isplitl [H5]
  · iexact H5
  isplitl [H6]
  · iexact H6
  isplitl [H7]
  · iexists _; iexact H7
  isplitl [H8]
  · iexists _; iexact H8
  · iexists _; iexact H9

end Cert.Gptq.Loop
-- ==== Proof.GptqFrame.lean ====
/- The frame of the quantising call as printed: what its buffers hold after each point, the run, and
   that the arguments end unchanged. The body enters through `Text.program_eq` and `W_body`. -/
module

public import proofs.«01_k».proof.Proof.Gen.Gptq.Launch
public import proofs.«01_k».proof.Proof.Gen.Gptq.Points
public import proofs.«01_k».proof.Proof.GptqText
public import proofs.«01_k».proof.Proof.GptqRun
public import Idealize.ShloMosaic.Lib.Pipeline.FrameBody
public import Idealize.ShloMosaic.Lib.Pipeline.FrameSuffix
public import Idealize.ShloMosaic.Lib.Tactic
public import Idealize.ShloMosaic.Lib.WordCmp
public import Idealize.ShloMosaic.Lib.Claim

@[expose] public section

set_option maxRecDepth 16384

noncomputable section

namespace Cert.Gptq.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Gptq.Gen
open Cert.Gptq.Loop (errB codeB scaleB zeroB W_body)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main around the region -/

/-- Core `c`'s TensorCore buffer contents when the region is entered, as a valuation: after the host operations before
    the region (`hostOps0`). -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

set_option maxHeartbeats 800000 in
/-- @main around the region, at the certificate's variants `𝒱₀`: the host lines before it, the region, the host lines
    after it (`Pipeline.hmain_around`, off `main_chain`): it reduces to the region CONTINUED BY the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

/-- The lines after the region touch the pipeline's arrays and the bypassing buffers only (each operation's buffers are
    unscoped TensorCore references, and with nothing prefetched every such reference is one or the other:
    `Pipeline.tailRefs_none`). -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And write no array of the pipeline (each writes only its own result buffer, which is no array). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host operation after the region writes `main_arg0`: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
/-- No host operation after the region writes `main_arg1`: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c
/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `W_…` / `V_…` — is the frame
    claim's post (`Cert.frame_Gptq`, Defs.lean, at any `F`). -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(((h c).2 main_arg0 (Pipeline.mem_restRefs_of main_arg0 (by decide) (by decide))).trans (W_main_arg0 m dats c)),
      (((h c).2 main_arg1 (Pipeline.mem_restRefs_of main_arg1 (by decide) (by decide))).trans (W_main_arg1 m dats c))⟩) h

/-! ## The kernel body on any staging memrefs: a subtype the run finds -/

/-- Each window's current staging memref at point `t`, spelled as the pipeline passes it (`bodyAt0`), and its wholeness. -/
abbrev ms0_0 (t : Fin cfg0.N) : Memref sig .tc .smem S128x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x64x1024 .i8 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S8x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S8x128 .f32 := win0_5.stage (cfg0.slots t 5)
abbrev hs0_5 (t : Fin cfg0.N) : (ms0_5 t).IsWhole := hstage0_5 ((cfg0.slots t 5).cast nbuf0_5)
/-- The scratch operands: whole scoped buffers of the kernel's own, passed beside the windows. -/
abbrev scM0_0 : Memref sig .tc .vmem S128x8x128 .f32 := Memref.whole cc0_scratch0
abbrev scM0_1 : Memref sig .tc .vmem S128x8x128 .f32 := Memref.whole cc0_scratch1
abbrev scM0_2 : Memref sig .tc .vmem S64x8x128 .f32 := Memref.whole cc0_scratch2

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

/-! ## What the outputs hold after each point -/

/-- What the outputs' staging buffers hold after the body at point `t`, in window order: the errors, the packed codes,
    the steps and the zero points of the point's block of weights. -/
def outsAt0 (c : Dev nD) (t : Fin cfg0.N) : Vec F S1024x128 .f32 × Vec F S1x64x1024 .i8 × Vec F S8x128 .f32 × Vec F S8x128 .f32 :=
  (errB (iblk m c 0 t) (iblk m c 1 t), codeB (iblk m c 0 t) (iblk m c 1 t), scaleB (iblk m c 1 t), zeroB (iblk m c 1 t))

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t).1
    | ⟨3, _⟩ => (outsAt0 m c t).2.1
    | ⟨4, _⟩ => (outsAt0 m c t).2.2.1
    | ⟨5, _⟩ => (outsAt0 m c t).2.2.2
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t).1 := by dsimp only [dats]
theorem after0_3 (c : Dev nD) (t : Fin cfg0.N) : (dats m 0 c).after 3 t = (outsAt0 m c t).2.1 := by dsimp only [dats]
theorem after0_4 (c : Dev nD) (t : Fin cfg0.N) : (dats m 0 c).after 4 t = (outsAt0 m c t).2.2.1 := by dsimp only [dats]
theorem after0_5 (c : Dev nD) (t : Fin cfg0.N) : (dats m 0 c).after 5 t = (outsAt0 m c t).2.2.2 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t))

/-- The body at any point: it is the loop program (`Cert.Gptq.Text.program_eq`), whose inputs' buffers hold their
    blocks; so `W_body` applies, the scratch buffers at any contents before and after. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  rw [show (dats m 0 c).Φ t.castSucc = Pipeline.ΦA spec0 c from rfl, PhiA0_eq, Text.program_eq]
  unfold outsAt0
  iintro ⟨⟨⟨HS0, HS1, HS2⟩, Hg⟩, Ho, ⟨%d0, H0⟩, ⟨%d1, H1⟩, ⟨%d2, H2⟩, ⟨%d3, H3⟩, ⟨%d4, H4⟩, ⟨%d5, H5⟩⟩
  iapply (W_body (defs₀ (F := F)) c Set.univ (ms0_0 t) (ms0_1 t) (ms0_2 t) (ms0_3 t) (ms0_4 t) (ms0_5 t) scM0_0 scM0_1 scM0_2
    (Text.stores4 (hs0_3 t)) (iblk m c 0 t) (iblk m c 1 t) _) $$ [H0 H1 H2 H3 H4 H5 HS0 HS1 HS2]
  · isplitl [H0]; · iexact H0
    isplitl [H1]; · iexact H1
    isplitl [H2]; · iexists _; iexact H2
    isplitl [H3]; · iexists _; iexact H3
    isplitl [H4]; · iexists _; iexact H4
    isplitl [H5]; · iexists _; iexact H5
    isplitl [HS0]; · iexact HS0
    isplitl [HS1]; · iexact HS1
    iexact HS2
  iintro ⟨H0, H1, H2, H3, H4, H5, HS0, HS1, HS2⟩
  isplitl [HS0 HS1 HS2 Hg]
  · isplitl [HS0 HS1 HS2]
    · isplitl [HS0]; · iexact HS0
      isplitl [HS1]; · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  iexact H5

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame_around`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the lines after the region leave it (Lib/Pipeline/Frame.lean `FramePost`). -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

/-- THE FRAME: `Cert.quiescent_Gptq`'s statement (Defs.lean) at any `F` — Proof.lean cites it at `Bits`:
    `theorem Cert.Proof.claim : Cert.Claim := ⟨Cert.Gptq.Gen.facts, fun m ρ _ => Cert.Gptq.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (unchanged m ρ) ((θ_run defs _ _).mono (fun _ h => h.2) (run_main_quiescent m ρ))

end Cert.Gptq.Run

end
-- ==== Proof.GptqIdealText.lean ====
/- The body of the quantising call read over the extended reals is the loop program: the printed body is the loops of
   Proof/GptqLoop.lean unrolled, operation for operation. -/
module

public import proofs.«01_k».proof.GptqIdeal
public import proofs.«01_k».proof.Proof.GptqLoop
public import Idealize.ShloMosaic.Lib.Tactic

@[expose] public section

noncomputable section

namespace Cert.GptqIdeal.Text

open Idealize.ShloMosaic Idealize.SL.Sem Cert.GptqIdeal Cert.Gptq.Loop
open Shapes9.Facts₀

variable {F : FTy → Type} [FloatOps F] [Facts]

/-- A group of packed codes fills whole words of its buffer. -/
theorem packed4 : ∀ g : Fin 8, (rK g).PackedRows (EltTy.packing .i8)
  | 0 => packedi8_S1x64x1024_S1x64x128_0_0_0
  | 1 => packedi8_S1x64x1024_S1x64x128_0_0_128
  | 2 => packedi8_S1x64x1024_S1x64x128_0_0_256
  | 3 => packedi8_S1x64x1024_S1x64x128_0_0_384
  | 4 => packedi8_S1x64x1024_S1x64x128_0_0_512
  | 5 => packedi8_S1x64x1024_S1x64x128_0_0_640
  | 6 => packedi8_S1x64x1024_S1x64x128_0_0_768
  | 7 => packedi8_S1x64x1024_S1x64x128_0_0_896

/-- A store of a group of packed codes writes whole words. -/
theorem stores4 {arg4 : Memref sig .tc .vmem S1x64x1024 .i8} (harg4 : arg4.IsWhole) (g : Fin 8) :
    (arg4.access (rK g)).Stores Finset.univ :=
  View.stores_vmem pos_kg (harg4.storeExact_slice rfl _ (packed4 g)) (fun _ => rfl)

/-- The printed body is the loop program. -/
theorem program_eq (i : grid0.Coords) (arg1 : Memref sig .tc .smem S128x128 .f32) (harg1 : arg1.IsWhole)
    (arg2 : Memref sig .tc .vmem S1024x128 .f32) (harg2 : arg2.IsWhole) (arg3 : Memref sig .tc .vmem S1024x128 .f32) (harg3 : arg3.IsWhole)
    (arg4 : Memref sig .tc .vmem S1x64x1024 .i8) (harg4 : arg4.IsWhole) (arg5 : Memref sig .tc .vmem S8x128 .f32) (harg5 : arg5.IsWhole)
    (arg6 : Memref sig .tc .vmem S8x128 .f32) (harg6 : arg6.IsWhole) (arg7 : Memref sig .tc .vmem S128x8x128 .f32) (harg7 : arg7.IsWhole)
    (arg8 : Memref sig .tc .vmem S128x8x128 .f32) (harg8 : arg8.IsWhole) (arg9 : Memref sig .tc .vmem S64x8x128 .f32) (harg9 : arg9.IsWhole) :
    cc0_gptq (F := F) i arg1 harg1 arg2 harg2 arg3 harg3 arg4 harg4 arg5 harg5 arg6 harg6 arg7 harg7 arg8 harg8 arg9 harg9
      = body arg1 arg2 arg3 arg4 arg5 arg6 arg7 arg8 arg9 (stores4 harg4) := by
  sl_kernel_rfl

end Cert.GptqIdeal.Text

end
-- ==== Proof.GptqIdealFrame.lean ====
/- The frame of the quantising call read over the extended reals: what its buffers hold after each point, the run, and
   that the arguments end unchanged. The body enters through `Text.program_eq` and `W_body`. -/
module

public import proofs.«01_k».proof.Proof.Gen.GptqIdeal.Launch
public import proofs.«01_k».proof.Proof.Gen.GptqIdeal.Points
public import proofs.«01_k».proof.Proof.GptqIdealText
public import proofs.«01_k».proof.Proof.GptqRun
public import Idealize.ShloMosaic.Lib.Pipeline.FrameBody
public import Idealize.ShloMosaic.Lib.Pipeline.FrameSuffix
public import Idealize.ShloMosaic.Lib.Tactic
public import Idealize.ShloMosaic.Lib.WordCmp
public import Idealize.ShloMosaic.Lib.Claim

@[expose] public section

set_option maxRecDepth 16384

noncomputable section

namespace Cert.GptqIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.GptqIdeal.Gen
open Cert.Gptq.Loop (errB codeB scaleB zeroB W_body)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main around the region -/

/-- Core `c`'s TensorCore buffer contents when the region is entered, as a valuation: after the host operations before
    the region (`hostOps0`). -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

set_option maxHeartbeats 800000 in
/-- @main around the region, at the certificate's variants `𝒱₀`: the host lines before it, the region, the host lines
    after it (`Pipeline.hmain_around`, off `main_chain`): it reduces to the region CONTINUED BY the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

/-- The lines after the region touch the pipeline's arrays and the bypassing buffers only (each operation's buffers are
    unscoped TensorCore references, and with nothing prefetched every such reference is one or the other:
    `Pipeline.tailRefs_none`). -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And write no array of the pipeline (each writes only its own result buffer, which is no array). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host operation after the region writes `main_arg0`: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
/-- No host operation after the region writes `main_arg1`: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c
/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `W_…` / `V_…` — is the frame
    claim's post (`Cert.frame_GptqIdeal`, Defs.lean, at any `F`). -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(((h c).2 main_arg0 (Pipeline.mem_restRefs_of main_arg0 (by decide) (by decide))).trans (W_main_arg0 m dats c)),
      (((h c).2 main_arg1 (Pipeline.mem_restRefs_of main_arg1 (by decide) (by decide))).trans (W_main_arg1 m dats c))⟩) h

/-! ## The kernel body on any staging memrefs: a subtype the run finds -/

/-- Each window's current staging memref at point `t`, spelled as the pipeline passes it (`bodyAt0`), and its wholeness. -/
abbrev ms0_0 (t : Fin cfg0.N) : Memref sig .tc .smem S128x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x64x1024 .i8 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S8x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S8x128 .f32 := win0_5.stage (cfg0.slots t 5)
abbrev hs0_5 (t : Fin cfg0.N) : (ms0_5 t).IsWhole := hstage0_5 ((cfg0.slots t 5).cast nbuf0_5)
/-- The scratch operands: whole scoped buffers of the kernel's own, passed beside the windows. -/
abbrev scM0_0 : Memref sig .tc .vmem S128x8x128 .f32 := Memref.whole cc0_scratch0
abbrev scM0_1 : Memref sig .tc .vmem S128x8x128 .f32 := Memref.whole cc0_scratch1
abbrev scM0_2 : Memref sig .tc .vmem S64x8x128 .f32 := Memref.whole cc0_scratch2

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

/-! ## What the outputs hold after each point -/

/-- What the outputs' staging buffers hold after the body at point `t`, in window order: the errors, the packed codes,
    the steps and the zero points of the point's block of weights. -/
def outsAt0 (c : Dev nD) (t : Fin cfg0.N) : Vec F S1024x128 .f32 × Vec F S1x64x1024 .i8 × Vec F S8x128 .f32 × Vec F S8x128 .f32 :=
  (errB (iblk m c 0 t) (iblk m c 1 t), codeB (iblk m c 0 t) (iblk m c 1 t), scaleB (iblk m c 1 t), zeroB (iblk m c 1 t))

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t).1
    | ⟨3, _⟩ => (outsAt0 m c t).2.1
    | ⟨4, _⟩ => (outsAt0 m c t).2.2.1
    | ⟨5, _⟩ => (outsAt0 m c t).2.2.2
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t).1 := by dsimp only [dats]
theorem after0_3 (c : Dev nD) (t : Fin cfg0.N) : (dats m 0 c).after 3 t = (outsAt0 m c t).2.1 := by dsimp only [dats]
theorem after0_4 (c : Dev nD) (t : Fin cfg0.N) : (dats m 0 c).after 4 t = (outsAt0 m c t).2.2.1 := by dsimp only [dats]
theorem after0_5 (c : Dev nD) (t : Fin cfg0.N) : (dats m 0 c).after 5 t = (outsAt0 m c t).2.2.2 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t))

/-- The body at any point: it is the loop program (`Cert.GptqIdeal.Text.program_eq`), whose inputs' buffers hold their
    blocks; so `W_body` applies, the scratch buffers at any contents before and after. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  rw [show (dats m 0 c).Φ t.castSucc = Pipeline.ΦA spec0 c from rfl, PhiA0_eq, Text.program_eq]
  unfold outsAt0
  iintro ⟨⟨⟨HS0, HS1, HS2⟩, Hg⟩, Ho, ⟨%d0, H0⟩, ⟨%d1, H1⟩, ⟨%d2, H2⟩, ⟨%d3, H3⟩, ⟨%d4, H4⟩, ⟨%d5, H5⟩⟩
  iapply (W_body (defs₀ (F := F)) c Set.univ (ms0_0 t) (ms0_1 t) (ms0_2 t) (ms0_3 t) (ms0_4 t) (ms0_5 t) scM0_0 scM0_1 scM0_2
    (Text.stores4 (hs0_3 t)) (iblk m c 0 t) (iblk m c 1 t) _) $$ [H0 H1 H2 H3 H4 H5 HS0 HS1 HS2]
  · isplitl [H0]; · iexact H0
    isplitl [H1]; · iexact H1
    isplitl [H2]; · iexists _; iexact H2
    isplitl [H3]; · iexists _; iexact H3
    isplitl [H4]; · iexists _; iexact H4
    isplitl [H5]; · iexists _; iexact H5
    isplitl [HS0]; · iexact HS0
    isplitl [HS1]; · iexact HS1
    iexact HS2
  iintro ⟨H0, H1, H2, H3, H4, H5, HS0, HS1, HS2⟩
  isplitl [HS0 HS1 HS2 Hg]
  · isplitl [HS0 HS1 HS2]
    · isplitl [HS0]; · iexact HS0
      isplitl [HS1]; · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  iexact H5

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame_around`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the lines after the region leave it (Lib/Pipeline/Frame.lean `FramePost`). -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

/-- THE FRAME: `Cert.quiescent_GptqIdeal`'s statement (Defs.lean) at any `F` — Proof.lean cites it at `Bits`:
    `theorem Cert.Proof.claim : Cert.Claim := ⟨Cert.GptqIdeal.Gen.facts, fun m ρ _ => Cert.GptqIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (unchanged m ρ) ((θ_run defs _ _).mono (fun _ h => h.2) (run_main_quiescent m ρ))

end Cert.GptqIdeal.Run

end
-- ==== Proof.GptqValue.lean ====
/- The quantising call's results, row by row: each result array of the call is read off the blocks that the points of the grid
   write, and the host lines after the call re-arrange them. -/
module

public import proofs.«01_k».proof.Proof.GptqIdealFrame
public import Idealize.ShloMosaic.Lib.Pipeline.ValueKit
public import Idealize.ShloMosaic.Lib.StableHlo.ReadAt

@[expose] public section

noncomputable section

namespace Cert.GptqIdeal.Run

open Idealize.ShloMosaic Idealize.ShloMosaic.TcCoe Idealize.ShloMosaic.Tactic Idealize.SL.Sem
open Idealize.ShloMosaic.Pipeline (Dat)
open Idealize.ShloMosaic.StableHlo (after)
open Cert.GptqIdeal.Gen
open Cert.Gptq.Loop (ShCol errB codeB scaleB zeroB tiles rowOf err pair)

variable (m : (ℓ : Loc nD τ sig) → Buf (Elt Ideal) ℓ) (ρ : Dev nD → PrngReg) (c : Dev nD)

/-! ## The call's arrays -/

/-- Where the blocks lie: point `t`'s weights and errors are rows `1024 t` to `1024 t + 1023`; its codes are at batch `t / 4`, rows
    `1024 (t % 4)` on; its steps and zero points are rows `8 t` to `8 t + 7` of 96. -/
theorem idx : ∀ t : Fin grid0.N,
    (win0_0.index t = ![0, 0]) ∧ (win0_1.index t = ![t.val, 0]) ∧ (win0_2.index t = ![t.val, 0])
    ∧ (win0_3.index t = ![t.val / 4, 0, t.val % 4]) ∧ (win0_4.index t = ![t.val, 0]) ∧ (win0_5.index t = ![t.val, 0]) := by
  decide +kernel

/-- The point that row `n` of 12288 is of. -/
def ptRow (n : Fin 12288) : Fin cfg0.N := ⟨n.val / 1024, by show _ < grid0.N; rw [N_0]; omega⟩

/-- The point that row `n` of batch `b` is of. -/
def ptB (b : Fin 3) (n : Fin 4096) : Fin cfg0.N := ⟨4 * b.val + n.val / 1024, by show _ < grid0.N; rw [N_0]; omega⟩

/-- The point that row `n` of 96 is of. -/
def pt96 (n : Fin 96) : Fin cfg0.N := ⟨n.val / 8, by show _ < grid0.N; rw [N_0]; omega⟩

/-- The errors. -/
def arrErr : Vec Ideal S12288x128 .f32 := fun i =>
  errB (iblk m c 0 (ptRow (i 0))) (iblk m c 1 (ptRow (i 0))) (ix2 (⟨(i 0).val % 1024, Nat.mod_lt _ (by decide)⟩ : Fin 1024) (i 1))

/-- The packed codes. -/
def arrCode : Vec Ideal S3x64x4096 .i8 := fun i =>
  codeB (iblk m c 0 (ptB (i 0) (i 2))) (iblk m c 1 (ptB (i 0) (i 2))) (ix3 (0 : Fin 1) (i 1) (⟨(i 2).val % 1024, Nat.mod_lt _ (by decide)⟩ : Fin 1024))

/-- The steps. -/
def arrScale : Vec Ideal S96x128 .f32 := fun i =>
  scaleB (iblk m c 1 (pt96 (i 0))) (ix2 (⟨(i 0).val % 8, Nat.mod_lt _ (by decide)⟩ : Fin 8) (i 1))

/-- The zero points. -/
def arrZero : Vec Ideal S96x128 .f32 := fun i =>
  zeroB (iblk m c 1 (pt96 (i 0))) (ix2 (⟨(i 0).val % 8, Nat.mod_lt _ (by decide)⟩ : Fin 8) (i 1))

theorem arr2 : (dats m 0 c).arrAt 2 cfg0.N = arrErr m c := by
  refine (dats m 0 c).arrAt_eq_of_covers 2 _ (by decide +kernel) fun t hf y => ?_
  obtain ⟨-, -, e, -⟩ := idx t
  blk_simp
  rw [after0_2]
  have e0 : ((win0_2.blk t).view.emb y 0).val = t.val * 1024 + (y 0).val := by blk_simp [e]
  have e1 : ((win0_2.blk t).view.emb y 1).val = (y 1).val := by blk_simp [e]
  have hy : (y 0).val < 1024 := (y 0).isLt
  have hp : ptRow ((win0_2.blk t).view.emb y 0) = t := Fin.ext (by show _ / 1024 = _; rw [e0]; omega)
  show errB (iblk m c 0 t) (iblk m c 1 t) y = errB (iblk m c 0 (ptRow _)) (iblk m c 1 (ptRow _)) _
  rw [hp]
  refine congrArg _ (funext fun a => Fin.ext ?_)
  match a with
  | ⟨0, _⟩ => show (y 0).val = ((win0_2.blk t).view.emb y 0).val % 1024; rw [e0]; omega
  | ⟨1, _⟩ => exact e1.symm

theorem arr3 : (dats m 0 c).arrAt 3 cfg0.N = arrCode m c := by
  refine (dats m 0 c).arrAt_eq_of_covers 3 _ (by decide +kernel) fun t hf y => ?_
  obtain ⟨-, -, -, e, -⟩ := idx t
  blk_simp
  rw [after0_3]
  have e0 : ((win0_3.blk t).view.emb y 0).val = t.val / 4 + (y 0).val := by blk_simp [e]
  have e1 : ((win0_3.blk t).view.emb y 1).val = (y 1).val := by blk_simp [e]
  have e2 : ((win0_3.blk t).view.emb y 2).val = t.val % 4 * 1024 + (y 2).val := by blk_simp [e]
  have hy0 : (y 0).val < 1 := (y 0).isLt
  have hy : (y 2).val < 1024 := (y 2).isLt
  have hp : ptB ((win0_3.blk t).view.emb y 0) ((win0_3.blk t).view.emb y 2) = t :=
    Fin.ext (by show 4 * _ + _ / 1024 = _; rw [e0, e2]; omega)
  show codeB (iblk m c 0 t) (iblk m c 1 t) y = codeB (iblk m c 0 (ptB _ _)) (iblk m c 1 (ptB _ _)) _
  rw [hp]
  refine congrArg _ (funext fun a => Fin.ext ?_)
  match a with
  | ⟨0, _⟩ => show (y 0).val = 0; omega
  | ⟨1, _⟩ => exact e1.symm
  | ⟨2, _⟩ => show (y 2).val = ((win0_3.blk t).view.emb y 2).val % 1024; rw [e2]; omega

theorem arr4 : (dats m 0 c).arrAt 4 cfg0.N = arrScale m c := by
  refine (dats m 0 c).arrAt_eq_of_covers 4 _ (by decide +kernel) fun t hf y => ?_
  obtain ⟨-, -, -, -, e, -⟩ := idx t
  blk_simp
  rw [after0_4]
  have e0 : ((win0_4.blk t).view.emb y 0).val = t.val * 8 + (y 0).val := by blk_simp [e]
  have e1 : ((win0_4.blk t).view.emb y 1).val = (y 1).val := by blk_simp [e]
  have hy : (y 0).val < 8 := (y 0).isLt
  have hp : pt96 ((win0_4.blk t).view.emb y 0) = t := Fin.ext (by show _ / 8 = _; rw [e0]; omega)
  show scaleB (iblk m c 1 t) y = scaleB (iblk m c 1 (pt96 _)) _
  rw [hp]
  refine congrArg _ (funext fun a => Fin.ext ?_)
  match a with
  | ⟨0, _⟩ => show (y 0).val = ((win0_4.blk t).view.emb y 0).val % 8; rw [e0]; omega
  | ⟨1, _⟩ => exact e1.symm

theorem arr5 : (dats m 0 c).arrAt 5 cfg0.N = arrZero m c := by
  refine (dats m 0 c).arrAt_eq_of_covers 5 _ (by decide +kernel) fun t hf y => ?_
  obtain ⟨-, -, -, -, -, e⟩ := idx t
  blk_simp
  rw [after0_5]
  have e0 : ((win0_5.blk t).view.emb y 0).val = t.val * 8 + (y 0).val := by blk_simp [e]
  have e1 : ((win0_5.blk t).view.emb y 1).val = (y 1).val := by blk_simp [e]
  have hy : (y 0).val < 8 := (y 0).isLt
  have hp : pt96 ((win0_5.blk t).view.emb y 0) = t := Fin.ext (by show _ / 8 = _; rw [e0]; omega)
  show zeroB (iblk m c 1 t) y = zeroB (iblk m c 1 (pt96 _)) _
  rw [hp]
  refine congrArg _ (funext fun a => Fin.ext ?_)
  match a with
  | ⟨0, _⟩ => show (y 0).val = ((win0_5.blk t).view.emb y 0).val % 8; rw [e0]; omega
  | ⟨1, _⟩ => exact e1.symm

/-! ## The host lines after the call, from any contents -/

section
variable (X : Valuation τ sig (Elt Ideal)) (b : Fin 3) (r : Fin 4096)

theorem err_at (j : Fin 128) : (after hostOps1 X (Proc.devRef .tc main_v3) : S3x4096x128.Idx → EReal) (ix3 b r j)
    = (X (Proc.devRef .tc main_v2_0) : S12288x128.Idx → EReal) (ix2 ⟨b.val * 4096 + r.val, by omega⟩ j) := by
  after_reads_at

theorem code_at (p : Fin 64) : (after hostOps1 X (Proc.devRef .tc main_v4) : S3x4096x64.Idx → BitVec 8) (ix3 b r p)
    = (X (Proc.devRef .tc main_v2_1) : S3x64x4096.Idx → BitVec 8) (ix3 b p r) := by
  after_reads_at

theorem scale_at : (after hostOps1 X (Proc.devRef .tc main_v5) : S3x4096x1.Idx → EReal) (ix3 b r 0)
    = (X (Proc.devRef .tc main_v2_2) : S96x128.Idx → EReal) (ix2 ⟨b.val * 32 + r.val / 128, by omega⟩ ⟨r.val % 128, Nat.mod_lt _ (by decide)⟩) := by
  after_reads_at

theorem zero_at : (after hostOps1 X (Proc.devRef .tc main_v8) : S3x4096x1.Idx → BitVec 8) (ix3 b r 0)
    = BitVec.truncate 8 (Ideal.fptosi 32
        ((X (Proc.devRef .tc main_v2_3) : S96x128.Idx → EReal) (ix2 ⟨b.val * 32 + r.val / 128, by omega⟩ ⟨r.val % 128, Nat.mod_lt _ (by decide)⟩))) := by
  after_reads_at
  rfl

end

/-! ## The blocks that the call reads -/

/-- The matrix: the first 128 columns of the second argument, at every point. -/
theorem iblk_mat (t : Fin cfg0.N) : iblk m c 0 t
    = extractStridedSlice S128x128 ![0, 0] (m ((c.tc : Thread nD τ).loc main_arg1)) slices_S128x3584_S128x128_0_0 := by
  have hV : V m c main_v1 = extractStridedSlice S128x128 ![0, 0] (m ((c.tc : Thread nD τ).loc main_arg1)) slices_S128x3584_S128x128_0_0 := by
    unfold V V0
    dsimp only [hostOps0, List.flatten_cons, List.flatten_nil, List.append_nil, List.cons_append, List.nil_append]
    after_results
  obtain ⟨e, -⟩ := idx t
  funext i
  show V m c main_v1 (((cfg0.win 0).blk t).view.emb i) = _
  rw [hV]
  refine congrArg _ ?_
  blk_ext [e]

/-- Row `r` of batch `b`, among all the rows. -/
theorem rows_entry (A : S3x4096x128.Idx → EReal) (b : Fin 3) (r : Fin 4096) (k : Fin 128) :
    shapeCast S12288x128 A shapeCasts_S3x4096x128_S12288x128 (ix2 (⟨b.val * 4096 + r.val, by omega⟩ : Fin 12288) k) = A (ix3 b r k) := by
  pointwise

/-- The weights: the rows of the first argument, 1024 to a point. -/
theorem iblk_row (b : Fin 3) (r : Fin 4096) (k : Fin 128) :
    (rowOf (tiles (iblk m c 1 (ptB b r))) k (ix2 (⟨r.val % 1024 / 128, by omega⟩ : Fin 8) (⟨r.val % 128, Nat.mod_lt _ (by decide)⟩ : Fin 128)) : EReal)
      = (m ((c.tc : Thread nD τ).loc main_arg0) : S3x4096x128.Idx → EReal) (ix3 b r k) := by
  have hV : V m c main_v0 = shapeCast S12288x128 (m ((c.tc : Thread nD τ).loc main_arg0)) shapeCasts_S3x4096x128_S12288x128 := by
    unfold V V0
    dsimp only [hostOps0, List.flatten_cons, List.flatten_nil, List.append_nil, List.cons_append, List.nil_append]
    after_results
    rfl
  obtain ⟨-, e, -⟩ := idx (ptB b r)
  show V m c main_v0 (((cfg0.win 1).blk (ptB b r)).view.emb _) = _
  rw [hV]
  have e0 : ∀ z, ((win0_1.blk (ptB b r)).view.emb z 0).val = (ptB b r).val * 1024 + (z 0).val := fun z => by blk_simp [e]
  have e1 : ∀ z, ((win0_1.blk (ptB b r)).view.emb z 1).val = (z 1).val := fun z => by blk_simp [e]
  refine (congrArg _ (show _ = (ix2 (⟨b.val * 4096 + r.val, by omega⟩ : Fin 12288) k : S12288x128.Idx) from ?_)).trans (rows_entry _ b r k)
  refine funext fun a => Fin.ext ?_
  match a with
  | ⟨0, _⟩ =>
    refine (e0 _).trans ?_
    show (4 * b.val + r.val / 1024) * 1024 + (128 * (r.val % 1024 / 128) + r.val % 128) = b.val * 4096 + r.val
    omega
  | ⟨1, _⟩ => exact e1 _

/-! ## The results at a row -/

/-- The row's place in its block. -/
def yRow (r : Fin 4096) : ShCol.Idx := ix2 (⟨r.val % 1024 / 128, by omega⟩ : Fin 8) (⟨r.val % 128, Nat.mod_lt _ (by decide)⟩ : Fin 128)

/-- The matrix. -/
abbrev mat : S128x128.Idx → Elt Ideal .f32 :=
  extractStridedSlice S128x128 ![0, 0] (m ((c.tc : Thread nD τ).loc main_arg1)) slices_S128x3584_S128x128_0_0

/-- What a buffer holds at the end. -/
abbrev fin (b : Ref sig .tc) : Buf (Elt Ideal) ((c : Thread nD τ).loc b) := Pipeline.afterTail₀ cfgs (dats m) 0 (V0 m) [hostOps1] c b

theorem ptRow_eq (b : Fin 3) (r : Fin 4096) : ptRow ⟨b.val * 4096 + r.val, by omega⟩ = ptB b r :=
  Fin.ext (by show (b.val * 4096 + r.val) / 1024 = 4 * b.val + r.val / 1024; omega)

theorem pt96_eq (b : Fin 3) (r : Fin 4096) : pt96 ⟨b.val * 32 + r.val / 128, by omega⟩ = ptB b r :=
  Fin.ext (by show (b.val * 32 + r.val / 128) / 8 = 4 * b.val + r.val / 1024; omega)

/-- A block of errors at a row's place, -/
theorem errB_at (H : S128x128.Idx → Elt Ideal .f32) (w : S1024x128.Idx → Elt Ideal .f32) (l : Fin 1024) (r : Fin 4096)
    (h : l.val = r.val % 1024) (j : Fin 128) :
    errB H w (ix2 l j) = err H (tiles w) (scaleB w) (zeroB w) j.val (yRow r) := by
  refine congrArg (err H (tiles w) (scaleB w) (zeroB w) j.val) (congrArg₂ ix2 (Fin.ext ?_) (Fin.ext ?_))
  · show l.val / 128 = r.val % 1024 / 128; rw [h]
  · show l.val % 128 = r.val % 128; omega

/-- and a block of packed codes. -/
theorem codeB_at (H : S128x128.Idx → Elt Ideal .f32) (w : S1024x128.Idx → Elt Ideal .f32) (l : Fin 1024) (r : Fin 4096)
    (h : l.val = r.val % 1024) (p : Fin 64) :
    codeB H w (ix3 (0 : Fin 1) p l)
      = BitVec.truncate 8 (Ideal.fptosi 32 (pair H (tiles w) (scaleB w) (zeroB w) p.val (yRow r))) := by
  have hy : (ix2 (⟨l.val / 128, by omega⟩ : Fin 8) (⟨l.val % 128, Nat.mod_lt _ (by decide)⟩ : Fin 128) : ShCol.Idx) = yRow r := by
    refine congrArg₂ ix2 (Fin.ext ?_) (Fin.ext ?_)
    · show l.val / 128 = r.val % 1024 / 128; rw [h]
    · show l.val % 128 = r.val % 128; omega
  rw [← hy]
  rfl

section
variable (b : Fin 3) (r : Fin 4096)

/-- The error of a column. -/
theorem fin_err (j : Fin 128) : (fin m c main_v3 : S3x4096x128.Idx → EReal) (ix3 b r j)
    = err (mat m c) (tiles (iblk m c 1 (ptB b r))) (scaleB (iblk m c 1 (ptB b r))) (zeroB (iblk m c 1 (ptB b r))) j.val (yRow r) := by
  refine (err_at _ b r j).trans ?_
  have h : Pipeline.withArrays (cfgs 0).spec c (V0 m c) (fun w => (dats m 0 c).arrAt w (cfgs 0).N) (Proc.devRef .tc main_v2_0) = arrErr m c :=
    (Pipeline.withArrays_arr spec0 launch0.win.arr_inj c (V0 m c) (fun w => (dats m 0 c).arrAt w cfg0.N) 2).trans (arr2 m c)
  refine (congrFun h _).trans ?_
  show errB (iblk m c 0 (ptRow ⟨b.val * 4096 + r.val, by omega⟩)) (iblk m c 1 (ptRow ⟨b.val * 4096 + r.val, by omega⟩))
    (ix2 (⟨(b.val * 4096 + r.val) % 1024, Nat.mod_lt _ (by decide)⟩ : Fin 1024) j) = _
  rw [ptRow_eq, iblk_mat]
  exact errB_at _ _ _ r (by show (b.val * 4096 + r.val) % 1024 = r.val % 1024; omega) j

/-- A pair of codes. -/
theorem fin_code (p : Fin 64) : (fin m c main_v4 : S3x4096x64.Idx → BitVec 8) (ix3 b r p)
    = BitVec.truncate 8 (Ideal.fptosi 32 (pair (mat m c) (tiles (iblk m c 1 (ptB b r))) (scaleB (iblk m c 1 (ptB b r)))
        (zeroB (iblk m c 1 (ptB b r))) p.val (yRow r))) := by
  refine (code_at _ b r p).trans ?_
  have h : Pipeline.withArrays (cfgs 0).spec c (V0 m c) (fun w => (dats m 0 c).arrAt w (cfgs 0).N) (Proc.devRef .tc main_v2_1) = arrCode m c :=
    (Pipeline.withArrays_arr spec0 launch0.win.arr_inj c (V0 m c) (fun w => (dats m 0 c).arrAt w cfg0.N) 3).trans (arr3 m c)
  refine (congrFun h _).trans ?_
  show codeB (iblk m c 0 (ptB b r)) (iblk m c 1 (ptB b r)) (ix3 (0 : Fin 1) p (⟨r.val % 1024, Nat.mod_lt _ (by decide)⟩ : Fin 1024)) = _
  rw [iblk_mat]
  exact codeB_at _ _ _ r rfl p

/-- The step. -/
theorem fin_scale : (fin m c main_v5 : S3x4096x1.Idx → EReal) (ix3 b r 0) = scaleB (iblk m c 1 (ptB b r)) (yRow r) := by
  refine (scale_at _ b r).trans ?_
  have h : Pipeline.withArrays (cfgs 0).spec c (V0 m c) (fun w => (dats m 0 c).arrAt w (cfgs 0).N) (Proc.devRef .tc main_v2_2) = arrScale m c :=
    (Pipeline.withArrays_arr spec0 launch0.win.arr_inj c (V0 m c) (fun w => (dats m 0 c).arrAt w cfg0.N) 4).trans (arr4 m c)
  refine (congrFun h _).trans ?_
  show scaleB (iblk m c 1 (pt96 ⟨b.val * 32 + r.val / 128, by omega⟩))
    (ix2 (⟨(b.val * 32 + r.val / 128) % 8, Nat.mod_lt _ (by decide)⟩ : Fin 8) (⟨r.val % 128, Nat.mod_lt _ (by decide)⟩ : Fin 128)) = _
  rw [pt96_eq]
  refine congrArg (scaleB _) (congrArg₂ ix2 (Fin.ext ?_) rfl)
  show (b.val * 32 + r.val / 128) % 8 = r.val % 1024 / 128
  omega

/-- The zero point. -/
theorem fin_zero : (fin m c main_v8 : S3x4096x1.Idx → BitVec 8) (ix3 b r 0)
    = BitVec.truncate 8 (Ideal.fptosi 32 (zeroB (iblk m c 1 (ptB b r)) (yRow r))) := by
  refine (zero_at _ b r).trans (congrArg (fun x => BitVec.truncate 8 (Ideal.fptosi 32 x)) ?_)
  have h : Pipeline.withArrays (cfgs 0).spec c (V0 m c) (fun w => (dats m 0 c).arrAt w (cfgs 0).N) (Proc.devRef .tc main_v2_3) = arrZero m c :=
    (Pipeline.withArrays_arr spec0 launch0.win.arr_inj c (V0 m c) (fun w => (dats m 0 c).arrAt w cfg0.N) 5).trans (arr5 m c)
  refine (congrFun h _).trans ?_
  show zeroB (iblk m c 1 (pt96 ⟨b.val * 32 + r.val / 128, by omega⟩))
    (ix2 (⟨(b.val * 32 + r.val / 128) % 8, Nat.mod_lt _ (by decide)⟩ : Fin 8) (⟨r.val % 128, Nat.mod_lt _ (by decide)⟩ : Fin 128)) = _
  rw [pt96_eq]
  refine congrArg (zeroB _) (congrArg₂ ix2 (Fin.ext ?_) rfl)
  show (b.val * 32 + r.val / 128) % 8 = r.val % 1024 / 128
  omega

end

/-- The run: every result buffer as the lines after the call leave it, the arguments unchanged. -/
theorem run_fin : θ_run defs (onTc (τ := τ) (main (F := Ideal))) ⟨m, fun _ => 0, ρ⟩ (fun r => ∀ c : Dev nD,
      r.2.mem ((c.tc : Thread nD τ).loc main_v3) = fin m c main_v3
      ∧ r.2.mem ((c.tc : Thread nD τ).loc main_v4) = fin m c main_v4
      ∧ r.2.mem ((c.tc : Thread nD τ).loc main_v5) = fin m c main_v5
      ∧ r.2.mem ((c.tc : Thread nD τ).loc main_v8) = fin m c main_v8
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c).2 main_v3 (Pipeline.mem_restRefs_of main_v3 (by decide) (by decide)),
      (h c).2 main_v4 (Pipeline.mem_restRefs_of main_v4 (by decide) (by decide)),
      (h c).2 main_v5 (Pipeline.mem_restRefs_of main_v5 (by decide) (by decide)),
      (h c).2 main_v8 (Pipeline.mem_restRefs_of main_v8 (by decide) (by decide)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.GptqIdeal.Run
-- ==== Proof.GptqScalar.lean ====
/- The quantiser's scalars over the extended reals: a code is an integer from 0 to 15 whatever the
   weight is, so reading it as a 32-bit integer and back changes nothing, and the pair of two codes
   is the same eight bits whether the codes are put together as numbers or as bits. -/
module

public import proofs.«01_k».proof.Proof.GptqSpec
public import Idealize.ShloMosaic.Lib.IdealHost
public import Idealize.ShloMosaic.Lib.DynamicIndex

@[expose] public section

noncomputable section

namespace Cert.Gptq.Scalar

open Idealize.ShloMosaic Idealize.SL.Sem Cert.Gptq.Loop

/-- The constant fifteen. -/
theorem ofBits_fifteen : Ideal.ofBits .f32 0x41700000#32 = ((15 : ℝ) : EReal) := by
  simp [Ideal.ofBits, Ideal.ieee, -EReal.coe_mul]; norm_num

/-- The constant sixteen. -/
theorem ofBits_sixteen : Ideal.ofBits .f32 0x41800000#32 = ((16 : ℝ) : EReal) := by
  simp [Ideal.ofBits, Ideal.ieee, -EReal.coe_mul]; norm_num

/-- A sum of two rounded numbers cut to 0..15 is one of the integers 0..15. -/
theorem clip_nat (a b : EReal) : ∃ q : Nat, q ≤ 15 ∧
    min ((15 : ℝ) : EReal) (max 0 (Ideal.liftRound Ideal.roundHalfEven a + Ideal.liftRound Ideal.roundHalfEven b))
      = ((q : ℝ) : EReal) := by
  have top : min ((15 : ℝ) : EReal) (max 0 ⊤) = (((15 : Nat) : ℝ) : EReal) := by simp
  have bot : min ((15 : ℝ) : EReal) (max 0 ⊥) = (((0 : Nat) : ℝ) : EReal) := by
    rw [max_eq_left bot_le, min_eq_right (by exact_mod_cast (by norm_num : (0 : ℝ) ≤ 15))]; simp
  induction a using EReal.rec with
  | bot => exact ⟨0, by omega, by rw [Ideal.liftRound_bot, EReal.bot_add]; exact bot⟩
  | top =>
    induction b using EReal.rec with
    | bot => exact ⟨0, by omega, by rw [Ideal.liftRound_bot, EReal.add_bot]; exact bot⟩
    | top => exact ⟨15, by omega, by rw [Ideal.liftRound_top, EReal.top_add_top]; exact top⟩
    | coe y => exact ⟨15, by omega, by rw [Ideal.liftRound_top, Ideal.liftRound_coe, EReal.top_add_coe]; exact top⟩
  | coe x =>
    induction b using EReal.rec with
    | bot => exact ⟨0, by omega, by rw [Ideal.liftRound_bot, EReal.add_bot]; exact bot⟩
    | top => exact ⟨15, by omega, by rw [Ideal.liftRound_top, Ideal.liftRound_coe, EReal.coe_add_top]; exact top⟩
    | coe y =>
      refine ⟨(min 15 (max 0 (Ideal.roundHalfEven x + Ideal.roundHalfEven y))).toNat, by omega, ?_⟩
      rw [Ideal.liftRound_coe, Ideal.liftRound_coe]
      generalize Ideal.roundHalfEven x = p
      generalize Ideal.roundHalfEven y = q
      rw [← EReal.coe_add, ← EReal.coe_zero, ← EReal.coe_strictMono.monotone.map_max,
        ← EReal.coe_strictMono.monotone.map_min]
      congr 1
      have h : ((min 15 (max 0 (p + q))).toNat : ℤ) = min 15 (max 0 (p + q)) := Int.toNat_of_nonneg (by omega)
      have h2 : (((min 15 (max 0 (p + q))).toNat : ℤ) : ℝ) = ((min 15 (max 0 (p + q)) : ℤ) : ℝ) := by rw [h]
      rw [Int.cast_natCast] at h2
      rw [h2]
      push_cast
      rfl

/-- A small natural number read as a 32-bit integer. -/
theorem fptosi_nat (q : Nat) (hq : q < 2 ^ 31) : Ideal.fptosi 32 ((q : ℝ) : EReal) = BitVec.ofNat 32 q := by
  have : Ideal.toIntClamped (-(2 ^ (32 - 1) : Nat)) ((2 ^ (32 - 1) : Nat) - 1) ((q : ℝ) : EReal) = (q : ℤ) := by
    show max _ (min _ (if 0 ≤ (q : ℝ) then ⌊(q : ℝ)⌋ else ⌈(q : ℝ)⌉)) = _
    rw [if_pos (Nat.cast_nonneg q), Int.floor_natCast]
    omega
  rw [Ideal.fptosi, this, BitVec.ofInt_natCast]

/-- and back. -/
theorem sitofp_nat (q : Nat) (hq : q < 2 ^ 31) : (((BitVec.ofNat 32 q).toInt : ℝ) : EReal) = ((q : ℝ) : EReal) := by
  rw [toInt_ofNat_of_lt hq, Int.cast_natCast]

/-- Two codes put together as numbers are the two codes put together as bits. -/
theorem pack_nat (a b : Nat) (ha : a ≤ 15) (hb : b ≤ 15) :
    BitVec.truncate 8 (BitVec.ofNat 32 (a + b * 16))
      = BitVec.truncate 8 (BitVec.ofNat 32 a ||| (BitVec.ofNat 32 b <<< 4)) := by
  have h : ∀ a' b' : Fin 16, BitVec.truncate 8 (BitVec.ofNat 32 (a'.val + b'.val * 16))
      = BitVec.truncate 8 (BitVec.ofNat 32 a'.val ||| (BitVec.ofNat 32 b'.val <<< 4)) := by decide
  exact h ⟨a, by omega⟩ ⟨b, by omega⟩

section
variable (H : Sh128.Idx → Elt Ideal .f32) (w : Sh1024.Idx → Elt Ideal .f32)

/-- A code of a block of weights is one of the integers 0..15. -/
theorem code_nat (j : Nat) (y : ShCol.Idx) : ∃ q : Nat, q ≤ 15 ∧
    code H (tiles w) (scaleB w) (zeroB w) j y = ((q : ℝ) : EReal) := by
  obtain ⟨q, hq, h⟩ := clip_nat (Ideal.div (cur H (tiles w) (scaleB w) (zeroB w) j y) (scaleB w y))
    (Ideal.div (Ideal.ofBits .f32 0x00000000#32 - (extrema (tiles w) 128).1 y) (scaleB w y))
  rw [← ofBits_fifteen, ← Ideal.ofBits_zero_f32] at h
  exact ⟨q, hq, h⟩

/-- A code read as a 32-bit integer and back is the code. -/
theorem code_round (j : Nat) (y : ShCol.Idx) :
    ((((Ideal.fptosi 32 (code H (tiles w) (scaleB w) (zeroB w) j y)).toInt : ℝ)) : EReal)
      = code H (tiles w) (scaleB w) (zeroB w) j y := by
  obtain ⟨q, hq, h⟩ := code_nat H w j y
  rw [h, fptosi_nat q (by omega), sitofp_nat q (by omega)]

/-- The eight bits of a pair of codes. -/
theorem pair_bits (p : Nat) (y : ShCol.Idx) :
    BitVec.truncate 8 (Ideal.fptosi 32 (pair H (tiles w) (scaleB w) (zeroB w) p y))
      = BitVec.truncate 8 (Ideal.fptosi 32 (code H (tiles w) (scaleB w) (zeroB w) (2 * p) y)
          ||| (Ideal.fptosi 32 (code H (tiles w) (scaleB w) (zeroB w) (2 * p + 1) y) <<< 4)) := by
  obtain ⟨a, ha, hA⟩ := code_nat H w (2 * p) y
  obtain ⟨b, hb, hB⟩ := code_nat H w (2 * p + 1) y
  have e : pair H (tiles w) (scaleB w) (zeroB w) p y = (((a + b * 16 : Nat) : ℝ) : EReal) := by
    show code H (tiles w) (scaleB w) (zeroB w) (2 * p) y
      + code H (tiles w) (scaleB w) (zeroB w) (2 * p + 1) y * Ideal.ofBits .f32 0x41800000#32 = _
    rw [hA, hB, ofBits_sixteen]
    push_cast
    rfl
  rw [e, hA, hB, fptosi_nat _ (by omega), fptosi_nat _ (by omega), fptosi_nat _ (by omega)]
  exact pack_nat a b ha hb

end

end Cert.Gptq.Scalar
-- ==== Proof.GptqRefTrip.lean ====
/- One trip of the reference's loop over the columns, at one row of the weights: it takes the kernel's
   recursion one column further. -/
module

public import proofs.«01_k».proof.Proof.Gen.GptqRefIdeal.Run
public import proofs.«01_k».proof.Proof.GptqScalar
public import Idealize.ShloMosaic.Lib.Pointwise
public import Idealize.ShloMosaic.Lib.WordCmp

@[expose] public section

noncomputable section

namespace Cert.GptqRefIdeal.Trip

open Idealize.ShloMosaic Idealize.ShloMosaic.TcCoe Idealize.SL.Sem
open Cert.GptqRefIdeal.Gen Cert.GptqRefIdeal.Value
open Cert.Gptq.Loop (Sh128 Sh1024 ShCol tiles scaleB zeroB err part code cur hAt wrap wrap_lt rowOf err_eq codeOf errOf bc)

/-- The contents of buffers over the extended reals. -/
local notation "Val" => Valuation τ sig (Elt Ideal)

/-- An entry of a row of the matrix, -/
abbrev at1 {α : Type} (f : S128.Idx → α) (k : Fin 128) : α := f (ix1 k)

/-- a row's entry of an array with one entry per row, -/
abbrev at2 {α : Type} (f : S3x4096.Idx → α) (b : Fin 3) (r : Fin 4096) : α := f (ix2 b r)

/-- and of an array with one entry per row and column. -/
abbrev at3 {α : Type} (f : S3x4096x128.Idx → α) (b : Fin 3) (r : Fin 4096) (k : Fin 128) : α := f (ix3 b r k)

/-- What holds of the carried buffers before the trip at column `n`, at row `(b, r)`, which is row `y` of the block of
    weights `w`: the matrix, the row's step and zero point, the column's number; the row's columns after the errors of the first
    `n` columns are taken off; those columns' codes and errors. -/
structure Inv (H : Sh128.Idx → Elt Ideal .f32) (w : Sh1024.Idx → Elt Ideal .f32) (b : Fin 3) (r : Fin 4096) (y : ShCol.Idx)
    (V : Val) (n : Nat) : Prop where
  mat : V (Proc.devRef .tc main_v21_0) = H
  scale : at2 (α := EReal) (V (Proc.devRef .tc main_v21_1)) b r = scaleB w y
  zero : at2 (α := EReal) (V (Proc.devRef .tc main_v21_2)) b r = zeroB w y
  col : V (Proc.devRef .tc main_v21_4) = constantI S_ 32 (BitVec.ofNat 32 n)
  cols : ∀ k : Fin 128, at3 (α := EReal) (V (Proc.devRef .tc main_v21_5)) b r k
    = part H (tiles w) (err H (tiles w) (scaleB w) (zeroB w)) k n y
  codes : ∀ j : Fin 128, j.val < n → at3 (α := BitVec 32) (V (Proc.devRef .tc main_v21_6)) b r j
    = Ideal.fptosi 32 (code H (tiles w) (scaleB w) (zeroB w) j.val y)
  errs : ∀ j : Fin 128, j.val < n → at3 (α := EReal) (V (Proc.devRef .tc main_v21_7)) b r j
    = err H (tiles w) (scaleB w) (zeroB w) j.val y

/-! ## A row, an entry, a column read or written at a number -/

section
variable {α : Type} (start2 : Fin 2 → Int) (start1 : Fin 1 → Int) (start3 : Fin 3 → Int) {n : Nat} (hn : n < 128)

theorem slice_row (X : S128x128.Idx → α) (h : S128x128.Slices (fun _ => 0) S1x128) (hc : S1x128.ShapeCasts S128)
    (h0 : start2 0 = n) (h1 : start2 1 = 0) (k : Fin 128) :
    shapeCast S128 (Host.dynamicSlice S1x128 X start2 h) hc (ix1 k) = X (ix2 ⟨n, hn⟩ k) := by
  have hs : S128x128.Slices ![n, 0] S1x128 := ⟨rfl, fun a => by fin_cases a <;> simp <;> omega⟩
  rw [Host.dynamicSlice_eq_extractStridedSlice S1x128 X start2 ![n, 0] h hs
    (fun a => by fin_cases a; exacts [h0, h1])]
  pointwise

theorem slice_entry (X : S128.Idx → α) (h : S128.Slices (fun _ => 0) S1) (hc : S1.ShapeCasts S_)
    (h0 : start1 0 = n) (i : S_.Idx) :
    shapeCast S_ (Host.dynamicSlice S1 X start1 h) hc i = at1 X ⟨n, hn⟩ := by
  have hs : S128.Slices ![n] S1 := ⟨rfl, fun a => by fin_cases a; simp; omega⟩
  rw [Host.dynamicSlice_eq_extractStridedSlice S1 X start1 ![n] h hs (fun a => by fin_cases a; exact h0)]
  pointwise

theorem slice_col (X : S3x4096x128.Idx → α) (h : S3x4096x128.Slices (fun _ => 0) S3x4096x1) (hc : S3x4096x1.ShapeCasts S3x4096)
    (h0 : start3 0 = 0) (h1 : start3 1 = 0) (h2 : start3 2 = n) (b : Fin 3) (r : Fin 4096) :
    shapeCast S3x4096 (Host.dynamicSlice S3x4096x1 X start3 h) hc (ix2 b r) = at3 X b r ⟨n, hn⟩ := by
  have hs : S3x4096x128.Slices ![0, 0, n] S3x4096x1 := ⟨rfl, fun a => by fin_cases a <;> simp; omega⟩
  rw [Host.dynamicSlice_eq_extractStridedSlice S3x4096x1 X start3 ![0, 0, n] h hs
    (fun a => by fin_cases a; exacts [h0, h1, h2])]
  pointwise

include hn in
theorem update_col (X : S3x4096x128.Idx → α) (u : S3x4096x1.Idx → α) (h : S3x4096x128.Slices (fun _ => 0) S3x4096x1)
    (h0 : start3 0 = 0) (h1 : start3 1 = 0) (h2 : start3 2 = n) (b : Fin 3) (r : Fin 4096) (j : Fin 128) :
    Host.dynamicUpdateSlice X u start3 h (ix3 b r j) = if j.val = n then u (ix3 b r (0 : Fin 1)) else X (ix3 b r j) := by
  have hs : S3x4096x128.Slices ![0, 0, n] S3x4096x1 := ⟨rfl, fun a => by fin_cases a <;> simp; omega⟩
  rw [WordCmp.dynamicUpdateSlice_eq_update X u start3 h ![0, 0, n] hs (fun a => by fin_cases a; exacts [h0, h1, h2])]
  unfold updateSlice
  by_cases hj : j.val = n
  · rw [if_pos hj, dif_pos]
    · congr 1
      funext a
      apply Fin.ext
      fin_cases a <;> simp [hj]
    · intro a
      fin_cases a <;> simp [hj]
  · rw [if_neg hj, dif_neg]
    intro hin
    have := hin 2
    have h2 : n ≤ j.val ∧ j.val < n + 1 := this
    omega

theorem spread_row (f : S3x4096.Idx → α) (b : Fin 3) (r : Fin 4096) (k : Fin 128) :
    at3 (broadcastInDim S3x4096x128 ![0, 1, 2] bcast_S3x4096x1_S3x4096x128_0_1_2 (broadcastInDim S3x4096x1 ![0, 1] bcast_S3x4096_S3x4096x1_0_1 f)) b r k
      = at2 f b r := by
  pointwise

theorem spread_col (f : S128.Idx → α) (b : Fin 3) (r : Fin 4096) (k : Fin 128) :
    at3 (broadcastInDim S3x4096x128 ![0, 1, 2] bcast_S1x1x128_S3x4096x128_0_1_2 (broadcastInDim S1x1x128 ![2] bcast_S128_S1x1x128_2 f)) b r k
      = at1 f k := by
  pointwise

theorem spread_one (f : S3x4096.Idx → α) (b : Fin 3) (r : Fin 4096) :
    broadcastInDim S3x4096x1 ![0, 1] bcast_S3x4096_S3x4096x1_0_1 f (ix3 b r (0 : Fin 1)) = at2 f b r := by
  pointwise

end

/-! ## The trip -/

section
variable {H : Sh128.Idx → Elt Ideal .f32} {w : Sh1024.Idx → Elt Ideal .f32} {b : Fin 3} {r : Fin 4096} {y : ShCol.Idx}
  {V : Val} {n : Nat}

/-- The column's number, as jax indexes by it. -/
theorem at_col (h : Inv H w b r y V n) (hn : n < 128) (i : S_.Idx) :
    BitVec.toInt (select (cmpi .slt (V (Proc.devRef .tc main_v21_4)) (constantI S_ 32 0#32))
      (addi (id (V (Proc.devRef .tc main_v21_4))) (constantI S_ 32 128#32)) (V (Proc.devRef .tc main_v21_4)) i) = (n : Int) := by
  rw [h.col]; exact toInt_wrap_ofNat n (by omega)

theorem row_at (h : Inv H w b r y V n) (hn : n < 128) (k : Fin 128) :
    at1 (α := EReal) (res_main_while0b_v31 V) k = hAt H ⟨n, hn⟩ k := by
  unfold res_main_while0b_v31
  refine (slice_row _ hn _ _ _ (at_col h hn _) rfl k).trans ?_
  rw [h.mat]; rfl

theorem col_at (h : Inv H w b r y V n) (hn : n < 128) :
    at2 (α := EReal) (res_main_while0b_v33 V) b r = cur H (tiles w) (scaleB w) (zeroB w) n y := by
  unfold res_main_while0b_v33
  refine (slice_col _ hn _ _ _ rfl rfl (at_col h hn _) b r).trans ?_
  rw [h.cols, cur, wrap_lt hn]

/-- The column's codes: the kernel's, as integers. -/
theorem code_at (h : Inv H w b r y V n) (hn : n < 128) :
    at2 (α := BitVec 32) (res_main_while0b_v38 V) b r
      = Ideal.fptosi 32 (code H (tiles w) (scaleB w) (zeroB w) n y) := by
  unfold res_main_while0b_v38
  show Ideal.fptosi 32 (min _ (max _ (Ideal.liftRound Ideal.roundHalfEven (Ideal.div
    (at2 (α := EReal) (res_main_while0b_v33 V) b r) (at2 (α := EReal) (V (Proc.devRef .tc main_v21_1)) b r))
    + at2 (α := EReal) (V (Proc.devRef .tc main_v21_2)) b r))) = _
  rw [col_at h hn, h.scale, h.zero]
  rfl

/-- The column's errors: the kernel's. -/
theorem err_at (h : Inv H w b r y V n) (hn : n < 128) :
    at2 (α := EReal) (res_main_while0b_v44 V) b r = err H (tiles w) (scaleB w) (zeroB w) n y := by
  unfold res_main_while0b_v44
  show Ideal.div (at2 (α := EReal) (res_main_while0b_v33 V) b r
      - (((((at2 (α := BitVec 32) (res_main_while0b_v38 V) b r).toInt : ℝ) : EReal)
          - at2 (α := EReal) (V (Proc.devRef .tc main_v21_2)) b r)
        * at2 (α := EReal) (V (Proc.devRef .tc main_v21_1)) b r))
    (shapeCast S_ _ _ _) = _
  rw [slice_entry _ hn _ _ _ (at_col h hn _), row_at h hn, code_at h hn, col_at h hn, h.scale, h.zero,
    Cert.Gptq.Scalar.code_round, err_eq, wrap_lt hn]
  rfl

/-- The trip. -/
theorem step (h : Inv H w b r y V n) (hn : n < 128) : Inv H w b r y (STEP V) (n + 1) where
  mat := by rw [STEP_main_v21_0]; exact h.mat
  scale := by rw [STEP_main_v21_1]; exact h.scale
  zero := by rw [STEP_main_v21_2]; exact h.zero
  col := by
    rw [STEP_main_v21_4, step_main_v21_4, h.col]
    funext i
    show BitVec.ofNat 32 n + 1#32 = BitVec.ofNat 32 (n + 1)
    rw [BitVec.ofNat_add]
  cols k := by
    rw [STEP_main_v21_5]
    show at3 (α := EReal) (V (Proc.devRef .tc main_v21_5)) b r k
      - at3 (α := EReal) (broadcastInDim S3x4096x128 ![0, 1, 2] bcast_S3x4096x1_S3x4096x128_0_1_2 (broadcastInDim S3x4096x1 ![0, 1] bcast_S3x4096_S3x4096x1_0_1
          (res_main_while0b_v44 V : S3x4096.Idx → EReal))) b r k
        * at3 (α := EReal) (broadcastInDim S3x4096x128 ![0, 1, 2] bcast_S1x1x128_S3x4096x128_0_1_2 (broadcastInDim S1x1x128 ![2] bcast_S128_S1x1x128_2
          (res_main_while0b_v31 V : S128.Idx → EReal))) b r k = _
    rw [spread_row, spread_col, h.cols, err_at h hn, row_at h hn, part, wrap_lt hn]
    rfl
  codes j hj := by
    rw [STEP_main_v21_6]
    refine (update_col _ hn _ _ updateFits_S3x4096x128_S3x4096x1 rfl rfl (at_col h hn _) b r j).trans ?_
    split_ifs with hjn
    · rw [hjn, ← code_at h hn]
      exact spread_one _ b r
    · exact h.codes j (by omega)
  errs j hj := by
    rw [STEP_main_v21_7]
    refine (update_col _ hn _ _ updateFits_S3x4096x128_S3x4096x1 rfl rfl (at_col h hn _) b r j).trans ?_
    split_ifs with hjn
    · rw [hjn, ← err_at h hn]
      exact spread_one _ b r
    · exact h.errs j (by omega)

/-- All the trips. -/
theorem steps {V : Val} (h : Inv H w b r y V 0) : ∀ n, n ≤ 128 → Inv H w b r y (STEP^[n] V) n
  | 0, _ => h
  | n + 1, hn => by
    rw [Function.iterate_succ_apply']
    exact step (steps h n (by omega)) (by omega)

end

end Cert.GptqRefIdeal.Trip
-- ==== Proof.GptqRefStages.lean ====
/- The reference before its loop, in stretches: what each stretch of host lines leaves, from any contents before it. The
   quantiser's steps and zero points, row by row, are the kernel's. -/
module

public import proofs.«01_k».proof.Proof.GptqRefTrip
public import Idealize.ShloMosaic.Lib.StableHlo.ReadAt

@[expose] public section

noncomputable section

namespace Cert.Gptq.Scalar

open Idealize.ShloMosaic Idealize.SL.Sem Cert.Gptq.Loop

theorem le_min_iff_extrema (X : ShX.Idx → Elt Ideal .f32) (y : ShCol.Idx) (a : EReal) :
    ∀ n, a ≤ ((extrema X n).1 y : EReal) ↔ a ≤ 0 ∧ ∀ j < n, a ≤ (rowOf X (wrap j) y : EReal)
  | 0 => by
    show a ≤ Ideal.ofBits .f32 0x00000000#32 ↔ _
    rw [Ideal.ofBits_zero_f32]; simp
  | n + 1 => by
    show a ≤ min ((extrema X n).1 y : EReal) (rowOf X (wrap n) y : EReal) ↔ _
    rw [le_min_iff, le_min_iff_extrema X y a n]
    constructor
    · rintro ⟨⟨h0, h⟩, hn⟩
      refine ⟨h0, fun j hj => ?_⟩
      rcases Nat.lt_succ_iff_lt_or_eq.mp hj with h' | rfl
      exacts [h j h', hn]
    · rintro ⟨h0, h⟩
      exact ⟨⟨h0, fun j hj => h j (by omega)⟩, h n (by omega)⟩

theorem max_le_iff_extrema (X : ShX.Idx → Elt Ideal .f32) (y : ShCol.Idx) (a : EReal) :
    ∀ n, ((extrema X n).2 y : EReal) ≤ a ↔ 0 ≤ a ∧ ∀ j < n, (rowOf X (wrap j) y : EReal) ≤ a
  | 0 => by
    show Ideal.ofBits .f32 0x00000000#32 ≤ a ↔ _
    rw [Ideal.ofBits_zero_f32]; simp
  | n + 1 => by
    show max ((extrema X n).2 y : EReal) (rowOf X (wrap n) y : EReal) ≤ a ↔ _
    rw [max_le_iff, max_le_iff_extrema X y a n]
    constructor
    · rintro ⟨⟨h0, h⟩, hn⟩
      refine ⟨h0, fun j hj => ?_⟩
      rcases Nat.lt_succ_iff_lt_or_eq.mp hj with h' | rfl
      exacts [h j h', hn]
    · rintro ⟨h0, h⟩
      exact ⟨⟨h0, fun j hj => h j (by omega)⟩, h n (by omega)⟩

/-- The constants plus and minus infinity. -/
theorem ofBits_top : Ideal.ofBits .f32 0x7F800000#32 = ⊤ := by simp [Ideal.ofBits, Ideal.ieee]
theorem ofBits_bot : Ideal.ofBits .f32 0xFF800000#32 = ⊥ := by simp [Ideal.ofBits, Ideal.ieee]

/-- The running minimum over all columns is the least of the row and zero. -/
theorem extrema_min (X : ShX.Idx → Elt Ideal .f32) (y : ShCol.Idx) :
    ((extrema X 128).1 y : EReal) = min (Finset.univ.fold min ⊤ fun k : Fin 128 => (rowOf X k y : EReal)) 0 := by
  refine eq_of_forall_le_iff fun a => ?_
  rw [le_min_iff_extrema, le_min_iff, Finset.le_fold_min]
  constructor
  · rintro ⟨h0, h⟩
    refine ⟨⟨le_top, fun k _ => ?_⟩, h0⟩
    have := h k.val k.isLt
    rwa [wrap_val] at this
  · rintro ⟨⟨-, h⟩, h0⟩
    exact ⟨h0, fun j hj => h (wrap j) (Finset.mem_univ _)⟩

/-- The running maximum over all columns is the greatest of the row and zero. -/
theorem extrema_max (X : ShX.Idx → Elt Ideal .f32) (y : ShCol.Idx) :
    ((extrema X 128).2 y : EReal) = max (Finset.univ.fold max ⊥ fun k : Fin 128 => (rowOf X k y : EReal)) 0 := by
  refine eq_of_forall_ge_iff fun a => ?_
  rw [max_le_iff_extrema, max_le_iff, Finset.fold_max_le]
  constructor
  · rintro ⟨h0, h⟩
    refine ⟨⟨bot_le, fun k _ => ?_⟩, h0⟩
    have := h k.val k.isLt
    rwa [wrap_val] at this
  · rintro ⟨⟨-, h⟩, h0⟩
    exact ⟨h0, fun j hj => h (wrap j) (Finset.mem_univ _)⟩

end Cert.Gptq.Scalar

namespace Cert.GptqRefIdeal.Trip

open Idealize.ShloMosaic Idealize.ShloMosaic.TcCoe Idealize.SL.Sem
open Cert.GptqRefIdeal.Gen Cert.GptqRefIdeal.Value
open Idealize.ShloMosaic.StableHlo

/-- An entry of a column of rows. -/
abbrev atC {α : Type} (X : S3x4096x1.Idx → α) (b : Fin 3) (r : Fin 4096) : α := X (ix3 b r 0)

/-! ## What each stretch before the loop leaves, from any contents -/

/-- A comparison, an entry at a time. -/
theorem cmp_entry (A B : FVec (F := Ideal) S3x4096x1 .f32) (b : Fin 3) (r : Fin 4096) :
    cmpf (F := Ideal) (φ := .f32) .oeq A B (ix3 b r 0) = FloatOps.cmpf (F := Ideal) (φ := .f32) .oeq (A (ix3 b r 0)) (B (ix3 b r 0)) := rfl

/-- A span over fifteen, an entry at a time. -/
theorem span_entry (A B : FVec (F := Ideal) S3x4096x1 .f32) (b : Fin 3) (r : Fin 4096) :
    Host.divf (subf A B) (broadcastInDim S3x4096x1 ![] bcast_S_S3x4096x1 (constant (F := Ideal) S_ .f32 0x41700000#32)) (ix3 b r 0)
      = Ideal.div ((A (ix3 b r 0) : EReal) - (B (ix3 b r 0) : EReal)) (Ideal.ofBits .f32 0x41700000#32) := by
  pointwise

/-- The least entry of a row and zero, read off the reduction. -/
theorem lo_entry (A : FVec (F := Ideal) S3x4096x128 .f32) (b : Fin 3) (r : Fin 4096) :
    (minimumf (F := Ideal) (φ := .f32) (broadcastInDim S3x4096x1 ![0, 1] bcast_S3x4096_S3x4096x1_0_1
        (Host.reduce FloatOps.minimumf A (constant (F := Ideal) S_ .f32 0x7F800000#32) reducesTo_S3x4096x128_S3x4096_d2 h_S_))
        (broadcastInDim S3x4096x1 ![] bcast_S_S3x4096x1 (constant (F := Ideal) S_ .f32 0x00000000#32)) (ix3 b r 0) : EReal)
      = min (Finset.univ.fold min ⊤ fun k : Fin 128 => (A (ix3 b r k) : EReal)) 0 := by
  pointwise
  rw [Cert.Gptq.Scalar.ofBits_top]

/-- The greatest entry of a row and zero, read off the reduction. -/
theorem hi_entry (A : FVec (F := Ideal) S3x4096x128 .f32) (b : Fin 3) (r : Fin 4096) :
    (maximumf (F := Ideal) (φ := .f32) (broadcastInDim S3x4096x1 ![0, 1] bcast_S3x4096_S3x4096x1_0_1
        (Host.reduce FloatOps.maximumf A (constant (F := Ideal) S_ .f32 0xFF800000#32) reducesTo_S3x4096x128_S3x4096_d2 h_S_))
        (broadcastInDim S3x4096x1 ![] bcast_S_S3x4096x1 (constant (F := Ideal) S_ .f32 0x00000000#32)) (ix3 b r 0) : EReal)
      = max (Finset.univ.fold max ⊥ fun k : Fin 128 => (A (ix3 b r k) : EReal)) 0 := by
  pointwise
  rw [Cert.Gptq.Scalar.ofBits_bot]

section
variable (X : Valuation τ sig (Elt Ideal)) (b : Fin 3) (r : Fin 4096)

theorem lo_eq : after hostOps0 X (Proc.devRef .tc main_v3)
    = minimumf (F := Ideal) (φ := .f32) (broadcastInDim S3x4096x1 ![0, 1] bcast_S3x4096_S3x4096x1_0_1
        (Host.reduce FloatOps.minimumf (X (Proc.devRef .tc main_arg0)) (constant (F := Ideal) S_ .f32 0x7F800000#32) reducesTo_S3x4096x128_S3x4096_d2 h_S_))
        (broadcastInDim S3x4096x1 ![] bcast_S_S3x4096x1 (constant (F := Ideal) S_ .f32 0x00000000#32)) := by
  after_reads_simp

theorem hi_eq : after hostOps0 X (Proc.devRef .tc main_v7)
    = maximumf (F := Ideal) (φ := .f32) (broadcastInDim S3x4096x1 ![0, 1] bcast_S3x4096_S3x4096x1_0_1
        (Host.reduce FloatOps.maximumf (X (Proc.devRef .tc main_arg0)) (constant (F := Ideal) S_ .f32 0xFF800000#32) reducesTo_S3x4096x128_S3x4096_d2 h_S_))
        (broadcastInDim S3x4096x1 ![] bcast_S_S3x4096x1 (constant (F := Ideal) S_ .f32 0x00000000#32)) := by
  after_reads_simp

/-- The least entry of a row and zero. -/
theorem lo_at : atC (α := EReal) (after hostOps0 X (Proc.devRef .tc main_v3)) b r
    = min (Finset.univ.fold min ⊤ fun k : Fin 128 => at3 (α := EReal) (X (Proc.devRef .tc main_arg0)) b r k) 0 := by
  rw [lo_eq]; exact lo_entry _ b r

/-- The greatest entry of a row and zero. -/
theorem hi_at : atC (α := EReal) (after hostOps0 X (Proc.devRef .tc main_v7)) b r
    = max (Finset.univ.fold max ⊥ fun k : Fin 128 => at3 (α := EReal) (X (Proc.devRef .tc main_arg0)) b r k) 0 := by
  rw [hi_eq]; exact hi_entry _ b r

theorem flat_eq : after hostOps0 X (Proc.devRef .tc main_v8)
    = cmpf (F := Ideal) (φ := .f32) .oeq (after hostOps0 X (Proc.devRef .tc main_v7)) (after hostOps0 X (Proc.devRef .tc main_v3)) := by
  after_reads_simp

theorem span_eq : after hostOps0 X (Proc.devRef .tc main_v11)
    = Host.divf (F := Ideal) (φ := .f32) (subf (F := Ideal) (φ := .f32) (after hostOps0 X (Proc.devRef .tc main_v7)) (after hostOps0 X (Proc.devRef .tc main_v3)))
        (broadcastInDim S3x4096x1 ![] bcast_S_S3x4096x1 (constant (F := Ideal) S_ .f32 0x41700000#32)) := by
  after_reads_simp

theorem one_eq : after hostOps0 X (Proc.devRef .tc main_cst_4) = constant (F := Ideal) S_ .f32 0x3F800000#32 := by
  after_reads_simp

/-- The choice of the step: one where a row is flat. -/
theorem where_at : atC (α := EReal) (after hostOps0_1 X (Proc.devRef .tc main_v12)) b r
    = Scalar.select (atC (α := BitVec 1) (X (Proc.devRef .tc main_v8)) b r) ((X (Proc.devRef .tc main_cst_4) : S_.Idx → EReal) ix0)
        (atC (α := EReal) (X (Proc.devRef .tc main_v11)) b r) := by
  unfold atC
  after_reads_at
  rfl

/-- The negated least entry over the step, -/
theorem quot_at : atC (α := EReal) (after hostOps0_2 X (Proc.devRef .tc main_v14)) b r
    = Ideal.div (- atC (α := EReal) (X (Proc.devRef .tc main_v3)) b r) (atC (α := EReal) (X (Proc.devRef .tc main_v12)) b r) := by
  unfold atC
  after_reads_at

/-- rounded. -/
theorem round_at : atC (α := EReal) (after hostOps0_3 X (Proc.devRef .tc main_v15)) b r
    = Ideal.liftRound Ideal.roundHalfEven (atC (α := EReal) (X (Proc.devRef .tc main_v14)) b r) := by
  unfold atC
  after_reads_at

theorem scale_at : at2 (α := EReal) (after hostOps0_4 X (Proc.devRef .tc main_v21_1)) b r
    = atC (α := EReal) (X (Proc.devRef .tc main_v12)) b r := by
  unfold at2 atC
  after_reads_at
  rfl

theorem zero_at : at2 (α := EReal) (after hostOps0_4 X (Proc.devRef .tc main_v21_2)) b r
    = atC (α := EReal) (X (Proc.devRef .tc main_v15)) b r := by
  unfold at2 atC
  after_reads_at
  rfl

theorem mat_eq : after hostOps0_4 X (Proc.devRef .tc main_v21_0)
    = extractStridedSlice S128x128 ![0, 0] (X (Proc.devRef .tc main_arg1)) slices_S128x3584_S128x128_0_0 := by
  after_reads_simp
  rfl

theorem col_eq : after hostOps0_4 X (Proc.devRef .tc main_v21_4) = constantI S_ 32 0#32 := by
  after_reads_simp
  rfl

theorem cols_eq : after hostOps0_4 X (Proc.devRef .tc main_v21_5) = X (Proc.devRef .tc main_arg0) := by
  after_reads_simp
  rfl

end

end Cert.GptqRefIdeal.Trip
-- ==== Proof.GptqRefEntry.lean ====
/- What the reference's loop starts from: the carried buffers at its entry hold the matrix, the kernel's step and zero point of
   every row, the weights. -/
module

public import proofs.«01_k».proof.Proof.GptqRefStages

@[expose] public section

noncomputable section

namespace Cert.GptqRefIdeal.Trip

open Idealize.ShloMosaic Idealize.ShloMosaic.TcCoe Idealize.SL.Sem
open Cert.GptqRefIdeal.Gen Cert.GptqRefIdeal.Value
open Idealize.ShloMosaic.StableHlo
open Cert.Gptq.Loop (Sh1024 ShCol tiles scaleB zeroB rowOf extrema)

/-! ## Together -/

section
variable (m : (ℓ : Loc nD τ sig) → Buf (Elt Ideal) ℓ) (c : Dev nD)

/-- The contents after the first stretch, and after each of the next three. -/
def st0 : Valuation τ sig (Elt Ideal) := after hostOps0 (launchContents m c)
def st1 : Valuation τ sig (Elt Ideal) := after hostOps0_1 (st0 m c)
def st2 : Valuation τ sig (Elt Ideal) := after hostOps0_2 (st1 m c)
def st3 : Valuation τ sig (Elt Ideal) := after hostOps0_3 (st2 m c)

theorem entry_eq : entryContents preI m c = after hostOps0_4 (st3 m c) := rfl

theorem st3_keep {x : Ref sig .tc} (h1 : x ∉ hostOps0_1_W) (h2 : x ∉ hostOps0_2_W) (h3 : x ∉ hostOps0_3_W) :
    st3 m c (Proc.devRef .tc x) = st0 m c (Proc.devRef .tc x) := by
  unfold st3 st2 st1
  rw [after_of_writes_sub _ _ hostOps0_3_writes h3, after_of_writes_sub _ _ hostOps0_2_writes h2, after_of_writes_sub _ _ hostOps0_1_writes h1]

/-- An argument is as at the launch. -/
theorem st3_arg {x : Ref sig .tc} (h0 : x ∉ hostOps0_W) (h1 : x ∉ hostOps0_1_W) (h2 : x ∉ hostOps0_2_W) (h3 : x ∉ hostOps0_3_W) :
    st3 m c (Proc.devRef .tc x) = m ((c.tc : Thread nD τ).loc x) := by
  rw [st3_keep m c h1 h2 h3]
  exact after_of_writes_sub _ _ hostOps0_writes h0

theorem st3_v12 : st3 m c (Proc.devRef .tc main_v12) = st1 m c (Proc.devRef .tc main_v12) := by
  unfold st3 st2
  rw [after_of_writes_sub _ _ hostOps0_3_writes (by decide), after_of_writes_sub _ _ hostOps0_2_writes (by decide)]

variable (w : Sh1024.Idx → Elt Ideal .f32) (b : Fin 3) (r : Fin 4096) (y : ShCol.Idx)
  (hw : ∀ k : Fin 128, (rowOf (tiles w) k y : EReal) = at3 (α := EReal) (m ((c.tc : Thread nD τ).loc main_arg0)) b r k)
include hw

theorem st0_lo : atC (α := EReal) (st0 m c (Proc.devRef .tc main_v3)) b r = (extrema (tiles w) 128).1 y := by
  rw [Cert.Gptq.Scalar.extrema_min, st0, lo_at]
  simp only [hw]

theorem st0_hi : atC (α := EReal) (st0 m c (Proc.devRef .tc main_v7)) b r = (extrema (tiles w) 128).2 y := by
  rw [Cert.Gptq.Scalar.extrema_max, st0, hi_at]
  simp only [hw]

/-- The step of a row is the kernel's. -/
theorem st3_scale : atC (α := EReal) (st3 m c (Proc.devRef .tc main_v12)) b r = scaleB w y := by
  have lo := st0_lo m c w b r y hw
  have hi := st0_hi m c w b r y hw
  rw [st3_v12]
  unfold st1
  rw [where_at]
  unfold st0 at lo hi ⊢
  rw [flat_eq, span_eq, one_eq]
  unfold atC at lo hi ⊢
  rw [cmp_entry, span_entry, lo, hi]
  rfl

/-- The zero point of a row is the kernel's. -/
theorem st3_zero : atC (α := EReal) (st3 m c (Proc.devRef .tc main_v15)) b r = zeroB w y := by
  have lo := st0_lo m c w b r y hw
  have sc := st3_scale m c w b r y hw
  rw [st3_v12] at sc
  unfold st3
  rw [round_at]
  unfold st2
  rw [quot_at, sc]
  unfold st1
  rw [after_of_writes_sub _ _ hostOps0_1_writes (by decide), lo, ← zero_sub, ← Ideal.ofBits_zero_f32]
  rfl

/-- What the loop starts from. -/
theorem entry : Inv (extractStridedSlice S128x128 ![0, 0] (m ((c.tc : Thread nD τ).loc main_arg1)) slices_S128x3584_S128x128_0_0)
    w b r y (entryContents preI m c) 0 where
  mat := by rw [entry_eq, mat_eq, st3_arg m c (by decide) (by decide) (by decide) (by decide)]
  scale := by rw [entry_eq, scale_at]; exact st3_scale m c w b r y hw
  zero := by rw [entry_eq, zero_at]; exact st3_zero m c w b r y hw
  col := by rw [entry_eq, col_eq]
  cols k := by
    rw [entry_eq, cols_eq, st3_arg m c (by decide) (by decide) (by decide) (by decide)]
    exact (hw k).symm
  codes j hj := absurd hj (Nat.not_lt_zero _)
  errs j hj := absurd hj (Nat.not_lt_zero _)

end

end Cert.GptqRefIdeal.Trip
-- ==== Proof.GptqRefFinal.lean ====
/- The reference's results, row by row, in the kernel's value functions. -/
module

public import proofs.«01_k».proof.Proof.GptqRefEntry

@[expose] public section

noncomputable section

namespace Cert.GptqRefIdeal.Trip

open Idealize.ShloMosaic Idealize.ShloMosaic.TcCoe Idealize.SL.Sem
open Cert.GptqRefIdeal.Gen Cert.GptqRefIdeal.Value
open Idealize.ShloMosaic.StableHlo
open Cert.Gptq.Loop (Sh1024 ShCol tiles scaleB zeroB rowOf code err)

/-- The reference each operation of `hostOps0_5` writes, in order. -/
abbrev hostOps0_5_W : List (Ref sig .tc) := [main_v22, main_v23, main_c_8, main_v24, main_v25, main_v26, main_v27, main_v28, main_v29]

theorem hostOps0_5_writes : (hostOps0_5 (F := Ideal)).Forall fun op => op.writes ⊆ (hostOps0_5_W.map (Proc.devRef (τ := τ) .tc)).toFinset :=
  forall_writes_sub_of_map rfl

/-! ## The last stretch, from any contents -/

section
variable (X : Valuation τ sig (Elt Ideal)) (b : Fin 3) (r : Fin 4096)

/-- A pair of codes in one byte. -/
theorem packed_at (p : Fin 64) : (after hostOps0_5 X (Proc.devRef .tc main_v27) : S3x4096x64.Idx → BitVec 8) (ix3 b r p)
    = BitVec.truncate 8 (at3 (α := BitVec 32) (X (Proc.devRef .tc main_v21_6)) b r ⟨2 * p.val, by omega⟩
        ||| (at3 (α := BitVec 32) (X (Proc.devRef .tc main_v21_6)) b r ⟨2 * p.val + 1, by omega⟩ <<< 4)) := by
  unfold at3
  after_reads_at
  rw [show (⟨1 + 2 * p.val, by omega⟩ : Fin 128) = ⟨2 * p.val + 1, by omega⟩ from Fin.ext (Nat.add_comm _ _)]
  rfl

/-- A zero point as a byte. -/
theorem zeros_at : (after hostOps0_5 X (Proc.devRef .tc main_v29) : S3x4096x1.Idx → BitVec 8) (ix3 b r 0)
    = BitVec.truncate 8 (Ideal.fptosi 32 (atC (α := EReal) (X (Proc.devRef .tc main_v15)) b r)) := by
  unfold atC
  after_reads_at
  rfl

end

/-! ## What the loop keeps -/

/-- A buffer that no operation of the body writes keeps its contents over a trip, -/
theorem body_keep (X : Valuation τ sig (Elt Ideal)) {x : Ref sig .tc}
    (h : ∀ W ∈ [while0Ops0_W, while0Ops0_1_W, while0Ops0_2_W, while0Ops0_3_W, while0Ops0_4_W, while0Ops0_5_W, while0Ops0_6_W,
      while0Ops0_7_W, while0Ops0_8_W, while0Ops0_9_W, while0Ops0_10_W, while0Ops0_11_W], x ∉ W) :
    afterL bodyI X (Proc.devRef .tc x) = X (Proc.devRef .tc x) := by
  simp only [List.forall_mem_cons] at h
  obtain ⟨h0, h1, h2, h3, h4, h5, h6, h7, h8, h9, h10, h11, -⟩ := h
  simp only [afterL_cons, afterL_nil]
  rw [after_of_writes_sub _ _ while0Ops0_11_writes h11, after_of_writes_sub _ _ while0Ops0_10_writes h10,
    after_of_writes_sub _ _ while0Ops0_9_writes h9, after_of_writes_sub _ _ while0Ops0_8_writes h8,
    after_of_writes_sub _ _ while0Ops0_7_writes h7, after_of_writes_sub _ _ while0Ops0_6_writes h6,
    after_of_writes_sub _ _ while0Ops0_5_writes h5, after_of_writes_sub _ _ while0Ops0_4_writes h4,
    after_of_writes_sub _ _ while0Ops0_3_writes h3, after_of_writes_sub _ _ while0Ops0_2_writes h2,
    after_of_writes_sub _ _ while0Ops0_1_writes h1, after_of_writes_sub _ _ while0Ops0_writes h0]

section
variable (m : (ℓ : Loc nD τ sig) → Buf (Elt Ideal) ℓ) (c : Dev nD)

/-- The contents after the loop. -/
def looped : Valuation τ sig (Elt Ideal) := after condOps (atK m 128 c)

theorem final_eq : finalContents condOps preI bodyI postI 128 m c = after hostOps0_5 (looped m c) := rfl

/-- over the whole loop. -/
theorem looped_keep {x : Ref sig .tc} (hc : x ∉ condOps_W)
    (h : ∀ W ∈ [while0Ops0_W, while0Ops0_1_W, while0Ops0_2_W, while0Ops0_3_W, while0Ops0_4_W, while0Ops0_5_W, while0Ops0_6_W,
      while0Ops0_7_W, while0Ops0_8_W, while0Ops0_9_W, while0Ops0_10_W, while0Ops0_11_W], x ∉ W) :
    looped m c (Proc.devRef .tc x) = entryContents preI m c (Proc.devRef .tc x) := by
  have key : ∀ k, atK m k c (Proc.devRef .tc x) = entryContents preI m c (Proc.devRef .tc x) := by
    intro k
    induction k with
    | zero => rfl
    | succ k ih =>
      rw [show atK m (k + 1) c = afterL bodyI (after condOps (atK m k c)) from rfl, body_keep _ h,
        after_of_writes_sub _ _ condOps_writes hc, ih]
  unfold looped
  rw [after_of_writes_sub _ _ condOps_writes hc, key]

/-- A carried buffer after the loop is as after 128 trips. -/
theorem looped_carried {x : Ref sig .tc} (hx : x ∈ carriedRefs) :
    looped m c (Proc.devRef .tc x) = (STEP^[128] (entryContents preI m c)) (Proc.devRef .tc x) :=
  (cond_keeps _ x hx).trans (atK_agree m c 128 x hx)

/-- An argument ends as it was. -/
theorem final_arg {x : Ref sig .tc} (h0 : x ∉ hostOps0_W) (h1 : x ∉ hostOps0_1_W) (h2 : x ∉ hostOps0_2_W) (h3 : x ∉ hostOps0_3_W)
    (h4 : x ∉ hostOps0_4_W) (h5 : x ∉ hostOps0_5_W) (hc : x ∉ condOps_W)
    (h : ∀ W ∈ [while0Ops0_W, while0Ops0_1_W, while0Ops0_2_W, while0Ops0_3_W, while0Ops0_4_W, while0Ops0_5_W, while0Ops0_6_W,
      while0Ops0_7_W, while0Ops0_8_W, while0Ops0_9_W, while0Ops0_10_W, while0Ops0_11_W], x ∉ W) :
    finalContents condOps preI bodyI postI 128 m c (Proc.devRef .tc x) = m ((c.tc : Thread nD τ).loc x) := by
  rw [final_eq, after_of_writes_sub _ _ hostOps0_5_writes h5, looped_keep m c hc h, entry_eq,
    after_of_writes_sub _ _ hostOps0_4_writes h4, st3_arg m c h0 h1 h2 h3]

theorem final_arg0 : finalContents condOps preI bodyI postI 128 m c (Proc.devRef .tc main_arg0) = m ((c.tc : Thread nD τ).loc main_arg0) :=
  final_arg m c (by decide) (by decide) (by decide) (by decide) (by decide) (by decide) (by decide) (by decide)

theorem final_arg1 : finalContents condOps preI bodyI postI 128 m c (Proc.devRef .tc main_arg1) = m ((c.tc : Thread nD τ).loc main_arg1) :=
  final_arg m c (by decide) (by decide) (by decide) (by decide) (by decide) (by decide) (by decide) (by decide)

/-! ## The results at a row -/

/-- The first 128 columns of the matrix. -/
abbrev mat : S128x128.Idx → Elt Ideal .f32 :=
  extractStridedSlice S128x128 ![0, 0] (m ((c.tc : Thread nD τ).loc main_arg1)) slices_S128x3584_S128x128_0_0

variable (w : Sh1024.Idx → Elt Ideal .f32) (b : Fin 3) (r : Fin 4096) (y : ShCol.Idx)
  (hw : ∀ k : Fin 128, (rowOf (tiles w) k y : EReal) = at3 (α := EReal) (m ((c.tc : Thread nD τ).loc main_arg0)) b r k)
include hw

/-- The error of a column. -/
theorem final_err (j : Fin 128) :
    at3 (α := EReal) (finalContents condOps preI bodyI postI 128 m c (Proc.devRef .tc main_v21_7)) b r j
      = err (mat m c) (tiles w) (scaleB w) (zeroB w) j.val y := by
  rw [final_eq, after_of_writes_sub _ _ hostOps0_5_writes (by decide), looped_carried m c (by decide)]
  exact (steps (entry m c w b r y hw) 128 (Nat.le_refl _)).errs j j.isLt

/-- A pair of codes. -/
theorem final_packed (p : Fin 64) :
    (finalContents condOps preI bodyI postI 128 m c (Proc.devRef .tc main_v27) : S3x4096x64.Idx → BitVec 8) (ix3 b r p)
      = BitVec.truncate 8 (Ideal.fptosi 32 (code (mat m c) (tiles w) (scaleB w) (zeroB w) (2 * p.val) y)
        ||| (Ideal.fptosi 32 (code (mat m c) (tiles w) (scaleB w) (zeroB w) (2 * p.val + 1) y) <<< 4)) := by
  have h := (steps (entry m c w b r y hw) 128 (Nat.le_refl _)).codes
  rw [final_eq, packed_at, looped_carried m c (by decide), h _ (by simp; omega), h _ (by simp; omega)]

/-- The step of a row. -/
theorem final_scale : atC (α := EReal) (finalContents condOps preI bodyI postI 128 m c (Proc.devRef .tc main_v12)) b r = scaleB w y := by
  rw [final_eq, after_of_writes_sub _ _ hostOps0_5_writes (by decide), looped_keep m c (by decide) (by decide), entry_eq,
    after_of_writes_sub _ _ hostOps0_4_writes (by decide)]
  exact st3_scale m c w b r y hw

/-- The zero point of a row. -/
theorem final_zero : (finalContents condOps preI bodyI postI 128 m c (Proc.devRef .tc main_v29) : S3x4096x1.Idx → BitVec 8) (ix3 b r 0)
    = BitVec.truncate 8 (Ideal.fptosi 32 (zeroB w y)) := by
  rw [final_eq, zeros_at, looped_keep m c (by decide) (by decide), entry_eq,
    after_of_writes_sub _ _ hostOps0_4_writes (by decide), st3_zero m c w b r y hw]

end

end Cert.GptqRefIdeal.Trip
-- ==== Proof.GptqEqual.lean ====
/- The quantising call and its reference end at the same results: row by row the same error, codes, step and zero point. -/
module

public import proofs.«01_k».proof.Defs
public import proofs.«01_k».proof.Proof.GptqValue
public import proofs.«01_k».proof.Proof.GptqScalar
public import proofs.«01_k».proof.Proof.GptqRefFinal

@[expose] public section

noncomputable section

namespace Cert.Gptq.Equal

open Idealize.ShloMosaic Idealize.ShloMosaic.TcCoe Idealize.SL.Sem
open Cert.Gptq.Loop (tiles rowOf scaleB zeroB)
open Cert.GptqIdeal.Run (fin yRow ptB iblk)
open Cert.GptqRefIdeal.Gen Cert.GptqRefIdeal.Value Cert.GptqRefIdeal.Trip

variable (m : (ℓ : Loc GptqIdeal.nD GptqIdeal.τ GptqIdeal.sig) → Buf (Elt Ideal) ℓ)
  (m' : (ℓ : Loc GptqRefIdeal.nD GptqRefIdeal.τ GptqRefIdeal.sig) → Buf (Elt Ideal) ℓ) (c : Dev GptqIdeal.nD)
  (h0 : m' ((c.tc : Thread GptqRefIdeal.nD GptqRefIdeal.τ).loc GptqRefIdeal.main_arg0) = m ((c.tc : Thread GptqIdeal.nD GptqIdeal.τ).loc GptqIdeal.main_arg0))
  (h1 : m' ((c.tc : Thread GptqRefIdeal.nD GptqRefIdeal.τ).loc GptqRefIdeal.main_arg1) = m ((c.tc : Thread GptqIdeal.nD GptqIdeal.τ).loc GptqIdeal.main_arg1))

/-- What a buffer of the reference holds at the end. -/
abbrev rfin (b : Ref GptqRefIdeal.sig .tc) : Buf (Elt Ideal) ((c.tc : Thread GptqRefIdeal.nD GptqRefIdeal.τ).loc b) :=
  Idealize.ShloMosaic.StableHlo.finalContents condOps preI bodyI postI 128 m' c (Proc.devRef .tc b)

include h0 in
/-- The reference's row is the block's. -/
theorem row_eq (b : Fin 3) (r : Fin 4096) (k : Fin 128) : (rowOf (tiles (iblk m c 1 (ptB b r))) k (yRow r) : EReal)
    = at3 (α := EReal) (m' ((c.tc : Thread GptqRefIdeal.nD GptqRefIdeal.τ).loc GptqRefIdeal.main_arg0)) b r k := by
  rw [h0]; exact Cert.GptqIdeal.Run.iblk_row m c b r k

include h1 in
/-- The two matrices are one. -/
theorem mat_eq : mat m' c = Cert.GptqIdeal.Run.mat m c := by
  unfold mat Cert.GptqIdeal.Run.mat
  rw [h1]

/-- Two indices of three coordinates, the last axis of one entry. -/
theorem last_one (i : (⟨3, ![3, 4096, 1]⟩ : Shape).Idx) : i = ix3 (i 0) (i 1) (0 : Fin 1) := by
  funext a
  match a with
  | ⟨0, _⟩ => rfl
  | ⟨1, _⟩ => rfl
  | ⟨2, _⟩ => exact Subsingleton.elim (α := Fin 1) _ _

include h0 h1

/-- The errors. -/
theorem err_eq : rfin m' c GptqRefIdeal.main_v21_7 = fin m c GptqIdeal.main_v3 := by
  refine funext fun (i : (⟨3, ![3, 4096, 128]⟩ : Shape).Idx) => ?_
  rw [show i = ix3 (i 0) (i 1) (i 2) from by funext a; fin_cases a <;> rfl]
  refine (final_err m' c _ (i 0) (i 1) (yRow (i 1)) (row_eq m m' c h0 (i 0) (i 1)) (i 2)).trans ?_
  rw [mat_eq m m' c h1]
  exact (Cert.GptqIdeal.Run.fin_err m c (i 0) (i 1) (i 2)).symm

/-- The packed codes. -/
theorem packed_eq : rfin m' c GptqRefIdeal.main_v27 = fin m c GptqIdeal.main_v4 := by
  refine funext fun (i : (⟨3, ![3, 4096, 64]⟩ : Shape).Idx) => ?_
  rw [show i = ix3 (i 0) (i 1) (i 2) from by funext a; fin_cases a <;> rfl]
  refine (final_packed m' c _ (i 0) (i 1) (yRow (i 1)) (row_eq m m' c h0 (i 0) (i 1)) (i 2)).trans ?_
  rw [mat_eq m m' c h1, ← Cert.Gptq.Scalar.pair_bits]
  exact (Cert.GptqIdeal.Run.fin_code m c (i 0) (i 1) (i 2)).symm

omit h1 in
/-- The steps. -/
theorem scales_eq : rfin m' c GptqRefIdeal.main_v12 = fin m c GptqIdeal.main_v5 := by
  refine funext fun (i : (⟨3, ![3, 4096, 1]⟩ : Shape).Idx) => ?_
  rw [last_one i]
  exact (final_scale m' c _ (i 0) (i 1) (yRow (i 1)) (row_eq m m' c h0 (i 0) (i 1))).trans
    (Cert.GptqIdeal.Run.fin_scale m c (i 0) (i 1)).symm

omit h1 in
/-- The zero points. -/
theorem zeros_eq : rfin m' c GptqRefIdeal.main_v29 = fin m c GptqIdeal.main_v8 := by
  refine funext fun (i : (⟨3, ![3, 4096, 1]⟩ : Shape).Idx) => ?_
  rw [last_one i]
  exact (final_zero m' c _ (i 0) (i 1) (yRow (i 1)) (row_eq m m' c h0 (i 0) (i 1))).trans
    (Cert.GptqIdeal.Run.fin_zero m c (i 0) (i 1)).symm

end Cert.Gptq.Equal
-- ==== Proof.lean ====
module

public import proofs.«01_k».proof.Proof.Gen.Gptq
public import proofs.«01_k».proof.Proof.Gen.Gptq.Launch
public import proofs.«01_k».proof.Proof.Gen.Gptq.Points
public import proofs.«01_k».proof.Proof.Gen.GptqIdeal
public import proofs.«01_k».proof.Proof.Gen.GptqIdeal.Launch
public import proofs.«01_k».proof.Proof.Gen.GptqIdeal.Points
public import proofs.«01_k».proof.Proof.Gen.GptqRefIdeal
public import proofs.«01_k».proof.Proof.Gen.GptqRefIdeal.Run
public import proofs.«01_k».proof.Defs
public import proofs.«01_k».proof.Proof.Gen.KernelIdeal.Value
public import proofs.«01_k».proof.Proof.Gen.ReferenceIdeal.Run
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.UpdValue
public import proofs.«01_k».proof.Proof.GptqFrame
public import proofs.«01_k».proof.Proof.GptqEqual
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The kernel runs from every memory, leaves its arguments and every counter as they were: the generated frame. -/
theorem frame_kernel : Cert.quiescent_Kernel (hKernel := Cert.Kernel.Gen.facts) := fun m ρ _ => Cert.Kernel.Gen.frame m ρ

/-- The same of the kernel at the ideal instance. -/
theorem frame_ideal : Cert.quiescent_KernelIdeal (hKernelIdeal := Cert.KernelIdeal.Gen.facts) := fun m ρ _ => Cert.KernelIdeal.Gen.frame m ρ

/-- The reference's host run read at the arguments; it declares no semaphore. -/
theorem frame_reference : Cert.quiescent_ReferenceIdeal (hReferenceIdeal := Cert.ReferenceIdeal.Gen.facts) := fun m ρ _ =>
  (θ_run Cert.ReferenceIdeal.defs _ _).mono (fun r h => ⟨fun c => ⟨(h c).2.1, (h c).2.2⟩,
      Idealize.ShloMosaic.sem_eq_zero_of_no_sems (by decide) r.2⟩)
    (Cert.ReferenceIdeal.Value.run (F := Ideal) m ρ)

/-- Where both arguments are finite, the kernel's result array and the reference's are the same matrix product. -/
theorem algebraic : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m ρ m' ρ' hpre hagree
  refine ⟨fun c => Cert.KernelIdeal.Upd.prod (m ((c.tc : Thread Cert.KernelIdeal.nD Cert.KernelIdeal.τ).loc Cert.KernelIdeal.main_arg0))
    (m ((c.tc : Thread Cert.KernelIdeal.nD Cert.KernelIdeal.τ).loc Cert.KernelIdeal.main_arg1)), ?_, ?_⟩
  · refine (θ_run Cert.KernelIdeal.defs _ _).mono (fun _ h c => ?_) (Cert.KernelIdeal.Value.run_blocks (F := Ideal) m ρ)
    have hf := Cert.KernelIdeal.Upd.fin_of_pre _ _ (hpre c)
    exact ⟨(h c).1.trans (Cert.KernelIdeal.Upd.final_o m c hf.1 hf.2), (h c).2⟩
  · refine (θ_run Cert.ReferenceIdeal.defs _ _).mono (fun _ h c => ⟨(h c).1.trans ?_, (h c).2⟩)
      (Cert.ReferenceIdeal.Value.run (F := Ideal) m' ρ')
    rw [(hagree c).1, (hagree c).2]
    exact Cert.ReferenceIdeal.Upd.dot_eq _ _

/-! ## The quantising call -/

/-- The quantising call runs from every memory, leaves its arguments and every counter as they were. -/
theorem frame_gptq : Cert.quiescent_Gptq (hGptq := Cert.Gptq.Gen.facts) := fun m ρ _ => Cert.Gptq.Run.frame m ρ

/-- The same at the ideal instance. -/
theorem frame_gptq_ideal : Cert.quiescent_GptqIdeal (hGptqIdeal := Cert.GptqIdeal.Gen.facts) := fun m ρ _ => Cert.GptqIdeal.Run.frame m ρ

/-- Its reference writes neither argument; it declares no semaphore. -/
theorem frame_gptq_reference : Cert.quiescent_GptqRefIdeal (hGptqRefIdeal := Cert.GptqRefIdeal.Gen.facts) := fun m ρ _ =>
  (θ_run Cert.GptqRefIdeal.defs _ _).mono (fun r h => ⟨fun c =>
      ⟨(h c Cert.GptqRefIdeal.main_arg0 rfl).trans (Cert.GptqRefIdeal.Trip.final_arg0 m c),
        (h c Cert.GptqRefIdeal.main_arg1 rfl).trans (Cert.GptqRefIdeal.Trip.final_arg1 m c)⟩,
      Idealize.ShloMosaic.sem_eq_zero_of_no_sems (by decide) r.2⟩)
    (Cert.GptqRefIdeal.Value.run_fold (F := Ideal) m ρ)

/-- From equal arguments, whatever they hold, the quantising call and its reference end at the same errors, packed codes, steps and
    zero points. -/
theorem algebraic_gptq : Cert.algebraic_GptqIdeal_GptqRefIdeal (hGptqIdeal := Cert.GptqIdeal.Gen.facts)
    (hGptqRefIdeal := Cert.GptqRefIdeal.Gen.facts) := by
  intro m ρ m' ρ' _ hagree
  refine ⟨fun c => Cert.GptqIdeal.Run.fin m c Cert.GptqIdeal.main_v3, fun c => Cert.GptqIdeal.Run.fin m c Cert.GptqIdeal.main_v4,
    fun c => Cert.GptqIdeal.Run.fin m c Cert.GptqIdeal.main_v5, fun c => Cert.GptqIdeal.Run.fin m c Cert.GptqIdeal.main_v8,
    Cert.GptqIdeal.Run.run_fin m ρ, ?_⟩
  refine (θ_run Cert.GptqRefIdeal.defs _ _).mono (fun r h c => ?_) (Cert.GptqRefIdeal.Value.run_fold (F := Ideal) m' ρ')
  obtain ⟨h0, h1⟩ := hagree c
  exact ⟨(h c Cert.GptqRefIdeal.main_v21_7 rfl).trans (Cert.Gptq.Equal.err_eq m m' c h0 h1),
    (h c Cert.GptqRefIdeal.main_v27 rfl).trans (Cert.Gptq.Equal.packed_eq m m' c h0 h1),
    (h c Cert.GptqRefIdeal.main_v12 rfl).trans (Cert.Gptq.Equal.scales_eq m m' c h0),
    (h c Cert.GptqRefIdeal.main_v29 rfl).trans (Cert.Gptq.Equal.zeros_eq m m' c h0),
    (h c Cert.GptqRefIdeal.main_arg0 rfl).trans (Cert.GptqRefIdeal.Trip.final_arg0 m' c),
    (h c Cert.GptqRefIdeal.main_arg1 rfl).trans (Cert.GptqRefIdeal.Trip.final_arg1 m' c)⟩

theorem claim : Cert.Claim := ⟨Cert.Kernel.Gen.facts, Cert.KernelIdeal.Gen.facts, Cert.ReferenceIdeal.Gen.facts, Cert.Gptq.Gen.facts,
  Cert.GptqIdeal.Gen.facts, Cert.GptqRefIdeal.Gen.facts, Cert.Pre_finite.Gen.facts,
  frame_kernel, frame_ideal, fun m ρ _ => frame_ideal m ρ trivial, frame_reference, fun m ρ _ => frame_reference m ρ trivial,
  frame_gptq, frame_gptq_ideal, frame_gptq_reference, trivial, algebraic, trivial, algebraic_gptq⟩

end Cert.Proof

end
